-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_affine [hPre_finite_affine : Cert.Pre_finite_affine.Facts] (m : (ℓ : Loc Cert.KernelIdeal.nD Cert.KernelIdeal.τ Cert.KernelIdeal.sig) → Buf (Elt Ideal) ℓ) : Prop :=
  ∀ c : Dev Cert.KernelIdeal.nD,
    (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).1 = (fun _ => 1#1)
    ∧ (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.1 = (fun _ => 1#1)
    ∧ (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.1 = (fun _ => 1#1)
    ∧ (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.1 = (fun _ => 1#1)
    ∧ (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.1 = (fun _ => 1#1)
    ∧ (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.1 = (fun _ => 1#1)
    ∧ (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.1 = (fun _ => 1#1)
    ∧ (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_affine [hPre_finite_affine : Cert.Pre_finite_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).1 = (fun _ => 1#1)
    ∧ (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.1 = (fun _ => 1#1)
    ∧ (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.1 = (fun _ => 1#1)
    ∧ (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.1 = (fun _ => 1#1)
    ∧ (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.1 = (fun _ => 1#1)
    ∧ (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.1 = (fun _ => 1#1)
    ∧ (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.1 = (fun _ => 1#1)
    ∧ (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_finite_affine [hKernelIdeal : Cert.KernelIdeal.Facts] [hPre_finite_affine : Cert.Pre_finite_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_finite_affine [hReferenceIdeal : Cert.ReferenceIdeal.Facts] [hPre_finite_affine : Cert.Pre_finite_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  True

def algebraic_KernelIdeal_ReferenceIdeal_pre_finite_affine [hKernelIdeal : Cert.KernelIdeal.Facts] [hReferenceIdeal : Cert.ReferenceIdeal.Facts] [hPre_finite_affine : Cert.Pre_finite_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v233)) (v1 : (c : Dev Cert.KernelIdeal.nD) → Buf (Elt Ideal) ((c.tc : Thread Cert.KernelIdeal.nD Cert.KernelIdeal.τ).loc Cert.KernelIdeal.main_v244_0)) (v2 : (c : Dev Cert.KernelIdeal.nD) → Buf (Elt Ideal) ((c.tc : Thread Cert.KernelIdeal.nD Cert.KernelIdeal.τ).loc Cert.KernelIdeal.main_v244_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v233) = v0 c
          ∧ r.2.mem ((c.tc : Thread Cert.KernelIdeal.nD Cert.KernelIdeal.τ).loc Cert.KernelIdeal.main_v244_0) = v1 c
          ∧ r.2.mem ((c.tc : Thread Cert.KernelIdeal.nD Cert.KernelIdeal.τ).loc Cert.KernelIdeal.main_v244_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_v268) = v1 c
          ∧ r.2.mem ((c.tc : Thread Cert.ReferenceIdeal.nD Cert.ReferenceIdeal.τ).loc Cert.ReferenceIdeal.main_v277) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_affine : Cert.Pre_finite_affine.Facts),
    quiescent_Kernel (hKernel := hKernel)
    ∧ quiescent_KernelIdeal (hKernelIdeal := hKernelIdeal)
    ∧ quiescent_KernelIdeal_pre_finite_affine (hKernelIdeal := hKernelIdeal) (hPre_finite_affine := hPre_finite_affine)
    ∧ quiescent_ReferenceIdeal (hReferenceIdeal := hReferenceIdeal)
    ∧ quiescent_ReferenceIdeal_pre_finite_affine (hReferenceIdeal := hReferenceIdeal) (hPre_finite_affine := hPre_finite_affine)
    ∧ preserves_Kernel_KernelIdeal
    ∧ algebraic_KernelIdeal_ReferenceIdeal_pre_finite_affine (hKernelIdeal := hKernelIdeal) (hReferenceIdeal := hReferenceIdeal) (hPre_finite_affine := hPre_finite_affine)
-- ==== Pre_finite_affine.lean ====
abbrev S50000x15 : Shape := ⟨2, ![50000, 15]⟩
abbrev S2x800000 : Shape := ⟨2, ![2, 800000]⟩
abbrev S50000 : Shape := ⟨1, ![50000]⟩
abbrev S15x1024 : Shape := ⟨2, ![15, 1024]⟩
abbrev S8x128 : Shape := ⟨2, ![8, 128]⟩
abbrev S1024 : Shape := ⟨1, ![1024]⟩
abbrev S1024x128 : Shape := ⟨2, ![1024, 128]⟩
abbrev S128 : Shape := ⟨1, ![128]⟩
abbrev S128x128 : Shape := ⟨2, ![128, 128]⟩
abbrev S128x512 : Shape := ⟨2, ![128, 512]⟩
abbrev S4x128 : Shape := ⟨2, ![4, 128]⟩
abbrev S128x64 : Shape := ⟨2, ![128, 64]⟩
abbrev S64 : Shape := ⟨1, ![64]⟩
abbrev S_ : Shape := ⟨0, ![]⟩

class Facts : Prop where
  bcast_S_S1024 : S_.BroadcastsInDim S1024 (![] : Fin 0 → Fin S1024.rank)
  bcast_S_S128 : S_.BroadcastsInDim S128 (![] : Fin 0 → Fin S128.rank)

variable [Facts]

def fn_part1 {F : FTy → Type} [FloatOps F] (main_arg21 : FVec F S128 .f32) (main_arg22 : FVec F S128 .f32) (main_v2 : IVec S1024 1) (main_v5 : IVec S1024 1) (main_v8 : IVec S128 1) (main_v11 : IVec S128 1) (main_v14 : IVec S128 1) (main_v17 : IVec S128 1) : IVec S1024 1 × IVec S1024 1 × IVec S128 1 × IVec S128 1 × IVec S128 1 × IVec S128 1 × IVec S128 1 × IVec S128 1 :=
  let main_v18 : FVec F S128 .f32 := Host.absf main_arg21
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_v21 : FVec F S128 .f32 := Host.absf main_arg22
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  (main_v2, main_v5, main_v8, main_v11, main_v14, main_v17, main_v20, main_v23)

def fn {F : FTy → Type} [FloatOps F] (main_arg0 : FVec F S50000x15 .f32) (main_arg1 : IVec S2x800000 32) (main_arg2 : IVec S50000 32) (main_arg3 : FVec F S15x1024 .f32) (main_arg4 : FVec F S8x128 .f32) (main_arg5 : FVec F S8x128 .f32) (main_arg6 : FVec F S1024 .f32) (main_arg7 : FVec F S1024 .f32) (main_arg8 : FVec F S1024 .f32) (main_arg9 : FVec F S1024x128 .f32) (main_arg10 : FVec F S128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_arg17 : FVec F S128 .f32) (main_arg18 : FVec F S128x512 .f32) (main_arg19 : FVec F S4x128 .f32) (main_arg20 : FVec F S4x128 .f32) (main_arg21 : FVec F S128 .f32) (main_arg22 : FVec F S128 .f32) (main_arg23 : FVec F S128 .f32) (main_arg24 : FVec F S128x128 .f32) (main_arg25 : FVec F S128 .f32) (main_arg26 : FVec F S128x64 .f32) (main_arg27 : FVec F S64 .f32) : IVec S1024 1 × IVec S1024 1 × IVec S128 1 × IVec S128 1 × IVec S128 1 × IVec S128 1 × IVec S128 1 × IVec S128 1 :=
  let main_v0 : FVec F S1024 .f32 := Host.absf main_arg6
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg7
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S128 .f32 := Host.absf main_arg10
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128 .f32 := Host.absf main_arg11
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S128 .f32 := Host.absf main_arg14
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128 .f32 := Host.absf main_arg16
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg21 main_arg22 main_v2 main_v5 main_v8 main_v11 main_v14 main_v17
-- ==== Kernel.lean ====
abbrev S50000x15 : Shape := ⟨2, ![50000, 15]⟩
abbrev S2x800000 : Shape := ⟨2, ![2, 800000]⟩
abbrev S50000 : Shape := ⟨1, ![50000]⟩
abbrev S15x1024 : Shape := ⟨2, ![15, 1024]⟩
abbrev S8x128 : Shape := ⟨2, ![8, 128]⟩
abbrev S1024 : Shape := ⟨1, ![1024]⟩
abbrev S1024x128 : Shape := ⟨2, ![1024, 128]⟩
abbrev S128 : Shape := ⟨1, ![128]⟩
abbrev S128x128 : Shape := ⟨2, ![128, 128]⟩
abbrev S128x512 : Shape := ⟨2, ![128, 512]⟩
abbrev S4x128 : Shape := ⟨2, ![4, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S8x8 : Shape := ⟨2, ![8, 8]⟩
abbrev S8x128x1 : Shape := ⟨3, ![8, 128, 1]⟩
abbrev S8x1x8 : Shape := ⟨3, ![8, 1, 8]⟩
abbrev S8x128x8 : Shape := ⟨3, ![8, 128, 8]⟩
abbrev S1024x8 : Shape := ⟨2, ![1024, 8]⟩
abbrev S50000x1024 : Shape := ⟨2, ![50000, 1024]⟩
abbrev S50000x8 : Shape := ⟨2, ![50000, 8]⟩
abbrev S1000x15 : Shape := ⟨2, ![1000, 15]⟩
abbrev S1000x1024 : Shape := ⟨2, ![1000, 1024]⟩
abbrev S1000x8 : Shape := ⟨2, ![1000, 8]⟩
abbrev S850000x1 : Shape := ⟨2, ![850000, 1]⟩
abbrev S850000x8 : Shape := ⟨2, ![850000, 8]⟩
abbrev S50000x8x128 : Shape := ⟨3, ![50000, 8, 128]⟩
abbrev S850000x8x128 : Shape := ⟨3, ![850000, 8, 128]⟩
abbrev S850000x8x1 : Shape := ⟨3, ![850000, 8, 1]⟩
abbrev S50000x8x1 : Shape := ⟨3, ![50000, 8, 1]⟩
abbrev S1x1024 : Shape := ⟨2, ![1, 1024]⟩
abbrev S50000x128 : Shape := ⟨2, ![50000, 128]⟩
abbrev S1000x128 : Shape := ⟨2, ![1000, 128]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S50000x1 : Shape := ⟨2, ![50000, 1]⟩
abbrev S4x4 : Shape := ⟨2, ![4, 4]⟩
abbrev S4x128x1 : Shape := ⟨3, ![4, 128, 1]⟩
abbrev S4x1x4 : Shape := ⟨3, ![4, 1, 4]⟩
abbrev S4x128x4 : Shape := ⟨3, ![4, 128, 4]⟩
abbrev S512x4 : Shape := ⟨2, ![512, 4]⟩
abbrev S50000x512 : Shape := ⟨2, ![50000, 512]⟩
abbrev S50000x4 : Shape := ⟨2, ![50000, 4]⟩
abbrev S1000x512 : Shape := ⟨2, ![1000, 512]⟩
abbrev S1000x4 : Shape := ⟨2, ![1000, 4]⟩
abbrev S850000x4 : Shape := ⟨2, ![850000, 4]⟩
abbrev S50000x4x128 : Shape := ⟨3, ![50000, 4, 128]⟩
abbrev S850000x4x128 : Shape := ⟨3, ![850000, 4, 128]⟩
abbrev S850000x4x1 : Shape := ⟨3, ![850000, 4, 1]⟩
abbrev S50000x4x1 : Shape := ⟨3, ![50000, 4, 1]⟩
abbrev S1024x1 : Shape := ⟨2, ![1024, 1]⟩
abbrev S1x64 : Shape := ⟨2, ![1, 64]⟩
abbrev S1024x64 : Shape := ⟨2, ![1024, 64]⟩

abbrev nBuf : Space → Nat
  | .hbm => 343
  | .vmem => 57
  | .smem => 0
  | _ => 0

abbrev hbmTy0_0 (i : Nat) : BufTy := match i % 128 with
  | 0 => ⟨S50000x15, .f32⟩
  | 1 => ⟨S2x800000, .i32⟩
  | 2 => ⟨S50000, .i32⟩
  | 3 => ⟨S15x1024, .f32⟩
  | 4 => ⟨S8x128, .f32⟩
  | 5 => ⟨S8x128, .f32⟩
  | 6 => ⟨S1024, .f32⟩
  | 7 => ⟨S1024, .f32⟩
  | 8 => ⟨S1024, .f32⟩
  | 9 => ⟨S1024x128, .f32⟩
  | 10 => ⟨S128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128x512, .f32⟩
  | 19 => ⟨S4x128, .f32⟩
  | 20 => ⟨S4x128, .f32⟩
  | 21 => ⟨S128, .f32⟩
  | 22 => ⟨S128, .f32⟩
  | 23 => ⟨S128, .f32⟩
  | 24 => ⟨S128x128, .f32⟩
  | 25 => ⟨S128, .f32⟩
  | 26 => ⟨S128x64, .f32⟩
  | 27 => ⟨S64, .f32⟩
  | 28 => ⟨S50000, .i32⟩
  | 29 => ⟨S1x800000, .i32⟩
  | 30 => ⟨S800000, .i32⟩
  | 31 => ⟨S1x800000, .i32⟩
  | 32 => ⟨S800000, .i32⟩
  | 33 => ⟨S850000, .i32⟩
  | 34 => ⟨S850000, .i32⟩
  | 35 => ⟨S_, .f32⟩
  | 36 => ⟨S_, .f32⟩
  | 37 => ⟨S_, .f32⟩
  | 38 => ⟨S_, .f32⟩
  | 39 => ⟨S8x8, .i32⟩
  | 40 => ⟨S8x8, .i32⟩
  | 41 => ⟨S_, .i32⟩
  | 42 => ⟨S8x8, .i32⟩
  | 43 => ⟨S8x8, .i32⟩
  | 44 => ⟨S8x8, .i1⟩
  | 45 => ⟨S8x8, .f32⟩
  | 46 => ⟨S8x128x1, .f32⟩
  | 47 => ⟨S8x1x8, .f32⟩
  | 48 => ⟨S8x128x8, .f32⟩
  | 49 => ⟨S8x128x8, .f32⟩
  | 50 => ⟨S8x128x8, .f32⟩
  | 51 => ⟨S1024x8, .f32⟩
  | 52 => ⟨S8x8, .i32⟩
  | 53 => ⟨S8x8, .i32⟩
  | 54 => ⟨S_, .i32⟩
  | 55 => ⟨S8x8, .i32⟩
  | 56 => ⟨S8x8, .i32⟩
  | 57 => ⟨S8x8, .i1⟩
  | 58 => ⟨S8x8, .f32⟩
  | 59 => ⟨S8x128x1, .f32⟩
  | 60 => ⟨S8x1x8, .f32⟩
  | 61 => ⟨S8x128x8, .f32⟩
  | 62 => ⟨S8x128x8, .f32⟩
  | 63 => ⟨S8x128x8, .f32⟩
  | 64 => ⟨S1024x8, .f32⟩
  | 65 => ⟨S50000x1024, .f32⟩
  | 66 => ⟨S50000x8, .f32⟩
  | 67 => ⟨S50000x8, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000x8, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x8, .f32⟩
  | 86 => ⟨S850000x8, .f32⟩
  | 87 => ⟨S_, .f32⟩
  | 88 => ⟨S_, .f32⟩
  | 89 => ⟨S850000x8, .f32⟩
  | 90 => ⟨S850000x8, .i1⟩
  | 91 => ⟨S_, .f32⟩
  | 92 => ⟨S850000x8, .f32⟩
  | 93 => ⟨S850000x8, .f32⟩
  | 94 => ⟨S850000x8, .f32⟩
  | 95 => ⟨S850000x8, .f32⟩
  | 96 => ⟨S_, .f32⟩
  | 97 => ⟨S50000x8, .f32⟩
  | 98 => ⟨S850000x1, .i32⟩
  | 99 => ⟨S50000x8, .f32⟩
  | 100 => ⟨S50000x8x128, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x8x128, .f32⟩
  | 110 => ⟨S850000x8x1, .f32⟩
  | 111 => ⟨S850000x8x128, .f32⟩
  | 112 => ⟨S850000x8x128, .f32⟩
  | 113 => ⟨S_, .f32⟩
  | 114 => ⟨S50000x8x128, .f32⟩
  | 115 => ⟨S850000x1, .i32⟩
  | 116 => ⟨S50000x8x128, .f32⟩
  | 117 => ⟨S_, .f32⟩
  | 118 => ⟨S50000x8, .f32⟩
  | 119 => ⟨S50000x8, .f32⟩
  | 120 => ⟨S50000x8x1, .f32⟩
  | 121 => ⟨S50000x8x128, .f32⟩
  | 122 => ⟨S50000x8x128, .f32⟩
  | 123 => ⟨S50000x1024, .f32⟩
  | 124 => ⟨S1024, .f32⟩
  | 125 => ⟨S1024, .f32⟩
  | 126 => ⟨S1x1024, .f32⟩
  | 127 => ⟨S1024, .f32⟩
  | _ => ⟨S50000x15, .f32⟩

abbrev hbmTy0_1 (i : Nat) : BufTy := match i % 128 with
  | 0 => ⟨S1024, .f32⟩
  | 1 => ⟨S1024, .f32⟩
  | 2 => ⟨S1024, .f32⟩
  | 3 => ⟨S1x1024, .f32⟩
  | 4 => ⟨S50000x128, .f32⟩
  | 5 => ⟨S_, .f32⟩
  | 6 => ⟨S850000, .f32⟩
  | 7 => ⟨S_, .f32⟩
  | 8 => ⟨S50000, .f32⟩
  | 9 => ⟨S850000x1, .i32⟩
  | 10 => ⟨S50000, .f32⟩
  | 11 => ⟨S_, .f32⟩
  | 12 => ⟨S50000, .f32⟩
  | 13 => ⟨S50000, .i1⟩
  | 14 => ⟨S_, .f32⟩
  | 15 => ⟨S50000, .f32⟩
  | 16 => ⟨S50000, .f32⟩
  | 17 => ⟨S_, .f32⟩
  | 18 => ⟨S_, .f32⟩
  | 19 => ⟨S50000, .f32⟩
  | 20 => ⟨S50000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000x128, .f32⟩
  | 49 => ⟨S850000x1, .f32⟩
  | 50 => ⟨S850000x128, .f32⟩
  | 51 => ⟨S850000x128, .f32⟩
  | 52 => ⟨S_, .f32⟩
  | 53 => ⟨S50000x128, .f32⟩
  | 54 => ⟨S850000x1, .i32⟩
  | 55 => ⟨S50000x128, .f32⟩
  | 56 => ⟨S128, .f32⟩
  | 57 => ⟨S128, .f32⟩
  | 58 => ⟨S1x128, .f32⟩
  | 59 => ⟨S128, .f32⟩
  | 60 => ⟨S128, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S800000, .f32⟩
  | 68 => ⟨S_, .f32⟩
  | 69 => ⟨S50000, .f32⟩
  | 70 => ⟨S800000x1, .i32⟩
  | 71 => ⟨S50000, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S_, .f32⟩
  | 86 => ⟨S50000, .f32⟩
  | 87 => ⟨S50000, .f32⟩
  | 88 => ⟨S50000x1, .f32⟩
  | 89 => ⟨S50000x128, .f32⟩
  | 90 => ⟨S50000x128, .f32⟩
  | 91 => ⟨S128, .f32⟩
  | 92 => ⟨S128, .f32⟩
  | 93 => ⟨S1x128, .f32⟩
  | 94 => ⟨S_, .f32⟩
  | 95 => ⟨S128, .f32⟩
  | 96 => ⟨S128, .f32⟩
  | 97 => ⟨S128, .f32⟩
  | 98 => ⟨S128, .f32⟩
  | 99 => ⟨S128, .f32⟩
  | 100 => ⟨S128, .f32⟩
  | 101 => ⟨S1x128, .f32⟩
  | 102 => ⟨S4x4, .i32⟩
  | 103 => ⟨S4x4, .i32⟩
  | 104 => ⟨S_, .i32⟩
  | 105 => ⟨S4x4, .i32⟩
  | 106 => ⟨S4x4, .i32⟩
  | 107 => ⟨S4x4, .i1⟩
  | 108 => ⟨S4x4, .f32⟩
  | 109 => ⟨S4x128x1, .f32⟩
  | 110 => ⟨S4x1x4, .f32⟩
  | 111 => ⟨S4x128x4, .f32⟩
  | 112 => ⟨S4x128x4, .f32⟩
  | 113 => ⟨S4x128x4, .f32⟩
  | 114 => ⟨S512x4, .f32⟩
  | 115 => ⟨S4x4, .i32⟩
  | 116 => ⟨S4x4, .i32⟩
  | 117 => ⟨S_, .i32⟩
  | 118 => ⟨S4x4, .i32⟩
  | 119 => ⟨S4x4, .i32⟩
  | 120 => ⟨S4x4, .i1⟩
  | 121 => ⟨S4x4, .f32⟩
  | 122 => ⟨S4x128x1, .f32⟩
  | 123 => ⟨S4x1x4, .f32⟩
  | 124 => ⟨S4x128x4, .f32⟩
  | 125 => ⟨S4x128x4, .f32⟩
  | 126 => ⟨S4x128x4, .f32⟩
  | 127 => ⟨S512x4, .f32⟩
  | _ => ⟨S50000x15, .f32⟩

abbrev hbmTy0_2 (i : Nat) : BufTy := match i % 128 with
  | 0 => ⟨S50000x512, .f32⟩
  | 1 => ⟨S50000x4, .f32⟩
  | 2 => ⟨S50000x4, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000x4, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000x4, .f32⟩
  | 21 => ⟨S850000x4, .f32⟩
  | 22 => ⟨S_, .f32⟩
  | 23 => ⟨S_, .f32⟩
  | 24 => ⟨S850000x4, .f32⟩
  | 25 => ⟨S850000x4, .i1⟩
  | 26 => ⟨S_, .f32⟩
  | 27 => ⟨S850000x4, .f32⟩
  | 28 => ⟨S850000x4, .f32⟩
  | 29 => ⟨S850000x4, .f32⟩
  | 30 => ⟨S850000x4, .f32⟩
  | 31 => ⟨S_, .f32⟩
  | 32 => ⟨S50000x4, .f32⟩
  | 33 => ⟨S850000x1, .i32⟩
  | 34 => ⟨S50000x4, .f32⟩
  | 35 => ⟨S50000x4x128, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000x4x128, .f32⟩
  | 45 => ⟨S850000x4x1, .f32⟩
  | 46 => ⟨S850000x4x128, .f32⟩
  | 47 => ⟨S850000x4x128, .f32⟩
  | 48 => ⟨S_, .f32⟩
  | 49 => ⟨S50000x4x128, .f32⟩
  | 50 => ⟨S850000x1, .i32⟩
  | 51 => ⟨S50000x4x128, .f32⟩
  | 52 => ⟨S_, .f32⟩
  | 53 => ⟨S50000x4, .f32⟩
  | 54 => ⟨S50000x4, .f32⟩
  | 55 => ⟨S50000x4x1, .f32⟩
  | 56 => ⟨S50000x4x128, .f32⟩
  | 57 => ⟨S50000x4x128, .f32⟩
  | 58 => ⟨S_, .f32⟩
  | 59 => ⟨S50000x128, .f32⟩
  | 60 => ⟨S_, .f32⟩
  | 61 => ⟨S50000x128, .f32⟩
  | 62 => ⟨S50000x128, .f32⟩
  | 63 => ⟨S128, .f32⟩
  | 64 => ⟨S128, .f32⟩
  | 65 => ⟨S1x128, .f32⟩
  | 66 => ⟨S128, .f32⟩
  | 67 => ⟨S128, .f32⟩
  | 68 => ⟨S128, .f32⟩
  | 69 => ⟨S128, .f32⟩
  | 70 => ⟨S1x128, .f32⟩
  | 71 => ⟨S50000x128, .f32⟩
  | 72 => ⟨S_, .f32⟩
  | 73 => ⟨S1024x128, .f32⟩
  | 74 => ⟨S50000x1, .i32⟩
  | 75 => ⟨S1024x128, .f32⟩
  | 76 => ⟨S_, .f32⟩
  | 77 => ⟨S50000, .f32⟩
  | 78 => ⟨S_, .f32⟩
  | 79 => ⟨S1024, .f32⟩
  | 80 => ⟨S50000x1, .i32⟩
  | 81 => ⟨S1024, .f32⟩
  | 82 => ⟨S1024x1, .f32⟩
  | 83 => ⟨S1x128, .f32⟩
  | 84 => ⟨S1x64, .f32⟩
  | 85 => ⟨S1024x128, .f32⟩
  | 86 => ⟨S1024x64, .f32⟩
  | _ => ⟨S50000x15, .f32⟩

abbrev hbmTy (i : Nat) : BufTy := match i / 128 with
  | 0 => hbmTy0_0 i
  | 1 => hbmTy0_1 i
  | 2 => hbmTy0_2 i
  | _ => ⟨S50000x15, .f32⟩

abbrev bufTy : (tb : Table) → Fin (tcTables nBuf tb) → BufTy
  | .hbm, ⟨i, _⟩ => hbmTy i
  | .local _ .vmem, ⟨0, _⟩ => ⟨S1000x15, .f32⟩
  | .local _ .vmem, ⟨1, _⟩ => ⟨S1000x15, .f32⟩
  | .local _ .vmem, ⟨2, _⟩ => ⟨S15x1024, .f32⟩
  | .local _ .vmem, ⟨3, _⟩ => ⟨S1024x8, .f32⟩
  | .local _ .vmem, ⟨4, _⟩ => ⟨S1024x8, .f32⟩
  | .local _ .vmem, ⟨5, _⟩ => ⟨S1000x1024, .f32⟩
  | .local _ .vmem, ⟨6, _⟩ => ⟨S1000x1024, .f32⟩
  | .local _ .vmem, ⟨7, _⟩ => ⟨S1000x8, .f32⟩
  | .local _ .vmem, ⟨8, _⟩ => ⟨S1000x8, .f32⟩
  | .local _ .vmem, ⟨9, _⟩ => ⟨S1000x8, .f32⟩
  | .local _ .vmem, ⟨10, _⟩ => ⟨S1000x8, .f32⟩
  | .local _ .vmem, ⟨11, _⟩ => ⟨S1000x1024, .f32⟩
  | .local _ .vmem, ⟨12, _⟩ => ⟨S1000x1024, .f32⟩
  | .local _ .vmem, ⟨13, _⟩ => ⟨S1x1024, .f32⟩
  | .local _ .vmem, ⟨14, _⟩ => ⟨S1x1024, .f32⟩
  | .local _ .vmem, ⟨15, _⟩ => ⟨S1024x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S128x128, .f32⟩
  | .local _ .vmem, ⟨32, _⟩ => ⟨S1x128, .f32⟩
  | .local _ .vmem, ⟨33, _⟩ => ⟨S1x128, .f32⟩
  | .local _ .vmem, ⟨34, _⟩ => ⟨S128x512, .f32⟩
  | .local _ .vmem, ⟨35, _⟩ => ⟨S512x4, .f32⟩
  | .local _ .vmem, ⟨36, _⟩ => ⟨S512x4, .f32⟩
  | .local _ .vmem, ⟨37, _⟩ => ⟨S1000x512, .f32⟩
  | .local _ .vmem, ⟨38, _⟩ => ⟨S1000x512, .f32⟩
  | .local _ .vmem, ⟨39, _⟩ => ⟨S1000x4, .f32⟩
  | .local _ .vmem, ⟨40, _⟩ => ⟨S1000x4, .f32⟩
  | .local _ .vmem, ⟨41, _⟩ => ⟨S1000x4, .f32⟩
  | .local _ .vmem, ⟨42, _⟩ => ⟨S1000x4, .f32⟩
  | .local _ .vmem, ⟨43, _⟩ => ⟨S1000x128, .f32⟩
  | .local _ .vmem, ⟨44, _⟩ => ⟨S1000x128, .f32⟩
  | .local _ .vmem, ⟨45, _⟩ => ⟨S1x128, .f32⟩
  | .local _ .vmem, ⟨46, _⟩ => ⟨S1x128, .f32⟩
  | .local _ .vmem, ⟨47, _⟩ => ⟨S1000x128, .f32⟩
  | .local _ .vmem, ⟨48, _⟩ => ⟨S1000x128, .f32⟩
  | .local _ .vmem, ⟨49, _⟩ => ⟨S1024x128, .f32⟩
  | .local _ .vmem, ⟨50, _⟩ => ⟨S1024x1, .f32⟩
  | .local _ .vmem, ⟨51, _⟩ => ⟨S128x128, .f32⟩
  | .local _ .vmem, ⟨52, _⟩ => ⟨S1x128, .f32⟩
  | .local _ .vmem, ⟨53, _⟩ => ⟨S128x64, .f32⟩
  | .local _ .vmem, ⟨54, _⟩ => ⟨S1x64, .f32⟩
  | .local _ .vmem, ⟨55, _⟩ => ⟨S1024x128, .f32⟩
  | .local _ .vmem, ⟨56, _⟩ => ⟨S1024x64, .f32⟩
  | _, _ => ⟨S50000x15, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_1 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33_0 : Ref sig .tc := ⟨.hbm, 65, rfl⟩
abbrev main_v33_1 : Ref sig .tc := ⟨.hbm, 66, rfl⟩
abbrev main_v33_2 : Ref sig .tc := ⟨.hbm, 67, rfl⟩
abbrev main_c_2 : Ref sig .tc := ⟨.hbm, 68, rfl⟩
abbrev main_v34 : Ref sig .tc := ⟨.hbm, 69, rfl⟩
abbrev main_v35 : Ref sig .tc := ⟨.hbm, 70, rfl⟩
abbrev main_c_3 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_4 : Ref sig .tc := ⟨.hbm, 77, rfl⟩
abbrev main_v41 : Ref sig .tc := ⟨.hbm, 78, rfl⟩
abbrev main_v42 : Ref sig .tc := ⟨.hbm, 79, rfl⟩
abbrev main_c_5 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_6 : Ref sig .tc := ⟨.hbm, 87, rfl⟩
abbrev main_call0_cst : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_v49 : Ref sig .tc := ⟨.hbm, 94, rfl⟩
abbrev main_v50 : Ref sig .tc := ⟨.hbm, 95, rfl⟩
abbrev main_cst_7 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_8 : Ref sig .tc := ⟨.hbm, 101, rfl⟩
abbrev main_v55 : Ref sig .tc := ⟨.hbm, 102, rfl⟩
abbrev main_v56 : Ref sig .tc := ⟨.hbm, 103, rfl⟩
abbrev main_c_9 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_10 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_11 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_12 : Ref sig .tc := ⟨.hbm, 133, rfl⟩
abbrev main_v83 : Ref sig .tc := ⟨.hbm, 134, rfl⟩
abbrev main_cst_13 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_14 : Ref sig .tc := ⟨.hbm, 139, rfl⟩
abbrev main_v87 : Ref sig .tc := ⟨.hbm, 140, rfl⟩
abbrev main_v88 : Ref sig .tc := ⟨.hbm, 141, rfl⟩
abbrev main_cst_15 : Ref sig .tc := ⟨.hbm, 142, rfl⟩
abbrev main_v89 : Ref sig .tc := ⟨.hbm, 143, rfl⟩
abbrev main_v90 : Ref sig .tc := ⟨.hbm, 144, rfl⟩
abbrev main_cst_16 : Ref sig .tc := ⟨.hbm, 145, rfl⟩
abbrev main_call1_v0 : Ref sig .tc := ⟨.hbm, 146, rfl⟩
abbrev main_call1_v1 : Ref sig .tc := ⟨.hbm, 147, rfl⟩
abbrev main_v91 : Ref sig .tc := ⟨.hbm, 148, rfl⟩
abbrev main_c_17 : Ref sig .tc := ⟨.hbm, 149, rfl⟩
abbrev main_v92 : Ref sig .tc := ⟨.hbm, 150, rfl⟩
abbrev main_v93 : Ref sig .tc := ⟨.hbm, 151, rfl⟩
abbrev main_c_18 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_c_19 : Ref sig .tc := ⟨.hbm, 158, rfl⟩
abbrev main_v99 : Ref sig .tc := ⟨.hbm, 159, rfl⟩
abbrev main_v100 : Ref sig .tc := ⟨.hbm, 160, rfl⟩
abbrev main_c_20 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_c_21 : Ref sig .tc := ⟨.hbm, 168, rfl⟩
abbrev main_v107 : Ref sig .tc := ⟨.hbm, 169, rfl⟩
abbrev main_v108 : Ref sig .tc := ⟨.hbm, 170, rfl⟩
abbrev main_c_22 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_cst_23 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128_0 : Ref sig .tc := ⟨.hbm, 192, rfl⟩
abbrev main_v128_1 : Ref sig .tc := ⟨.hbm, 193, rfl⟩
abbrev main_cst_24 : Ref sig .tc := ⟨.hbm, 194, rfl⟩
abbrev main_v129 : Ref sig .tc := ⟨.hbm, 195, rfl⟩
abbrev main_cst_25 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_c_26 : Ref sig .tc := ⟨.hbm, 200, rfl⟩
abbrev main_v133 : Ref sig .tc := ⟨.hbm, 201, rfl⟩
abbrev main_v134 : Ref sig .tc := ⟨.hbm, 202, rfl⟩
abbrev main_c_27 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_cst_28 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_cst_29 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_cst_30 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_c_31 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_c_32 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182_0 : Ref sig .tc := ⟨.hbm, 256, rfl⟩
abbrev main_v182_1 : Ref sig .tc := ⟨.hbm, 257, rfl⟩
abbrev main_v182_2 : Ref sig .tc := ⟨.hbm, 258, rfl⟩
abbrev main_c_33 : Ref sig .tc := ⟨.hbm, 259, rfl⟩
abbrev main_v183 : Ref sig .tc := ⟨.hbm, 260, rfl⟩
abbrev main_v184 : Ref sig .tc := ⟨.hbm, 261, rfl⟩
abbrev main_c_34 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_c_35 : Ref sig .tc := ⟨.hbm, 268, rfl⟩
abbrev main_v190 : Ref sig .tc := ⟨.hbm, 269, rfl⟩
abbrev main_v191 : Ref sig .tc := ⟨.hbm, 270, rfl⟩
abbrev main_c_36 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_cst_37 : Ref sig .tc := ⟨.hbm, 278, rfl⟩
abbrev main_call2_cst : Ref sig .tc := ⟨.hbm, 279, rfl⟩
abbrev main_call2_v0 : Ref sig .tc := ⟨.hbm, 280, rfl⟩
abbrev main_call2_v1 : Ref sig .tc := ⟨.hbm, 281, rfl⟩
abbrev main_call2_v2 : Ref sig .tc := ⟨.hbm, 282, rfl⟩
abbrev main_call2_v3 : Ref sig .tc := ⟨.hbm, 283, rfl⟩
abbrev main_call2_v4 : Ref sig .tc := ⟨.hbm, 284, rfl⟩
abbrev main_v198 : Ref sig .tc := ⟨.hbm, 285, rfl⟩
abbrev main_v199 : Ref sig .tc := ⟨.hbm, 286, rfl⟩
abbrev main_cst_38 : Ref sig .tc := ⟨.hbm, 287, rfl⟩
abbrev main_v200 : Ref sig .tc := ⟨.hbm, 288, rfl⟩
abbrev main_v201 : Ref sig .tc := ⟨.hbm, 289, rfl⟩
abbrev main_v202 : Ref sig .tc := ⟨.hbm, 290, rfl⟩
abbrev main_v203 : Ref sig .tc := ⟨.hbm, 291, rfl⟩
abbrev main_c_39 : Ref sig .tc := ⟨.hbm, 292, rfl⟩
abbrev main_v204 : Ref sig .tc := ⟨.hbm, 293, rfl⟩
abbrev main_v205 : Ref sig .tc := ⟨.hbm, 294, rfl⟩
abbrev main_c_40 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_cst_41 : Ref sig .tc := ⟨.hbm, 304, rfl⟩
abbrev main_v214 : Ref sig .tc := ⟨.hbm, 305, rfl⟩
abbrev main_v215 : Ref sig .tc := ⟨.hbm, 306, rfl⟩
abbrev main_v216 : Ref sig .tc := ⟨.hbm, 307, rfl⟩
abbrev main_cst_42 : Ref sig .tc := ⟨.hbm, 308, rfl⟩
abbrev main_v217 : Ref sig .tc := ⟨.hbm, 309, rfl⟩
abbrev main_v218 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩
abbrev main_cst_43 : Ref sig .tc := ⟨.hbm, 314, rfl⟩
abbrev main_v222 : Ref sig .tc := ⟨.hbm, 315, rfl⟩
abbrev main_cst_44 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_cst_45 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_cst_46 : Ref sig .tc := ⟨.hbm, 332, rfl⟩
abbrev main_v237 : Ref sig .tc := ⟨.hbm, 333, rfl⟩
abbrev main_cst_47 : Ref sig .tc := ⟨.hbm, 334, rfl⟩
abbrev main_v238 : Ref sig .tc := ⟨.hbm, 335, rfl⟩
abbrev main_v239 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_v243 : Ref sig .tc := ⟨.hbm, 340, rfl⟩
abbrev main_v244_0 : Ref sig .tc := ⟨.hbm, 341, rfl⟩
abbrev main_v244_1 : Ref sig .tc := ⟨.hbm, 342, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg8_1 : Ref sig .tc := ⟨.vmem, 38, rfl⟩
abbrev cc3_stg9_0 : Ref sig .tc := ⟨.vmem, 39, rfl⟩
abbrev cc3_stg9_1 : Ref sig .tc := ⟨.vmem, 40, rfl⟩
abbrev cc3_stg10_0 : Ref sig .tc := ⟨.vmem, 41, rfl⟩
abbrev cc3_stg10_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg3_1 : Ref sig .tc := ⟨.vmem, 48, rfl⟩
abbrev cc5_stg0_0 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg6_0 : Ref sig .tc := ⟨.vmem, 55, rfl⟩
abbrev cc5_stg7_0 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem8_1 : DmaSem sig := 38
abbrev cc3_sem9_0 : DmaSem sig := 39
abbrev cc3_sem9_1 : DmaSem sig := 40
abbrev cc3_sem10_0 : DmaSem sig := 41
abbrev cc3_sem10_1 : DmaSem sig := 42
abbrev cc4_sem0_0 : DmaSem sig := 43
abbrev cc4_sem0_1 : DmaSem sig := 44
abbrev cc4_sem1_0 : DmaSem sig := 45
abbrev cc4_sem2_0 : DmaSem sig := 46
abbrev cc4_sem3_0 : DmaSem sig := 47
abbrev cc4_sem3_1 : DmaSem sig := 48
abbrev cc5_sem0_0 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem7_0 : DmaSem sig := 56

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x15 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S15x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x4 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x4 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1000x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1000x4 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1000x4 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := .none

abbrev stage5_0 : Fin 1 → Memref sig .tc .vmem S1024x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S1024x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S128x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S1024x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S1024x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
-- ==== ReferenceIdeal.lean ====
abbrev S50000x15 : Shape := ⟨2, ![50000, 15]⟩
abbrev S2x800000 : Shape := ⟨2, ![2, 800000]⟩
abbrev S50000 : Shape := ⟨1, ![50000]⟩
abbrev S15x1024 : Shape := ⟨2, ![15, 1024]⟩
abbrev S8x128 : Shape := ⟨2, ![8, 128]⟩
abbrev S1024 : Shape := ⟨1, ![1024]⟩
abbrev S1024x128 : Shape := ⟨2, ![1024, 128]⟩
abbrev S128 : Shape := ⟨1, ![128]⟩
abbrev S128x128 : Shape := ⟨2, ![128, 128]⟩
abbrev S128x512 : Shape := ⟨2, ![128, 512]⟩
abbrev S4x128 : Shape := ⟨2, ![4, 128]⟩
abbrev S128x64 : Shape := ⟨2, ![128, 64]⟩
abbrev S64 : Shape := ⟨1, ![64]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S50000x1024 : Shape := ⟨2, ![50000, 1024]⟩
abbrev S50000x8x128 : Shape := ⟨3, ![50000, 8, 128]⟩
abbrev S1x8x128 : Shape := ⟨3, ![1, 8, 128]⟩
abbrev S_ : Shape := ⟨0, ![]⟩
abbrev S50000x8 : Shape := ⟨2, ![50000, 8]⟩
abbrev S850000x1 : Shape := ⟨2, ![850000, 1]⟩
abbrev S850000x8 : Shape := ⟨2, ![850000, 8]⟩
abbrev S850000x8x128 : Shape := ⟨3, ![850000, 8, 128]⟩
abbrev S850000x8x1 : Shape := ⟨3, ![850000, 8, 1]⟩
abbrev S1x1024 : Shape := ⟨2, ![1, 1024]⟩
abbrev S50000x128 : Shape := ⟨2, ![50000, 128]⟩
abbrev S850000x128 : Shape := ⟨2, ![850000, 128]⟩
abbrev S1x128 : Shape := ⟨2, ![1, 128]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x1 : Shape := ⟨2, ![50000, 1]⟩
abbrev S50000x512 : Shape := ⟨2, ![50000, 512]⟩
abbrev S50000x4x128 : Shape := ⟨3, ![50000, 4, 128]⟩
abbrev S1x4x128 : Shape := ⟨3, ![1, 4, 128]⟩
abbrev S50000x4 : Shape := ⟨2, ![50000, 4]⟩
abbrev S850000x4 : Shape := ⟨2, ![850000, 4]⟩
abbrev S850000x4x128 : Shape := ⟨3, ![850000, 4, 128]⟩
abbrev S850000x4x1 : Shape := ⟨3, ![850000, 4, 1]⟩
abbrev S1024x1 : Shape := ⟨2, ![1024, 1]⟩
abbrev S1024x64 : Shape := ⟨2, ![1024, 64]⟩
abbrev S1x64 : Shape := ⟨2, ![1, 64]⟩

abbrev nBuf : Space → Nat
  | .hbm => 434
  | .vmem => 0
  | .smem => 0
  | _ => 0

abbrev hbmTy0_0 (i : Nat) : BufTy := match i % 128 with
  | 0 => ⟨S50000x15, .f32⟩
  | 1 => ⟨S2x800000, .i32⟩
  | 2 => ⟨S50000, .i32⟩
  | 3 => ⟨S15x1024, .f32⟩
  | 4 => ⟨S8x128, .f32⟩
  | 5 => ⟨S8x128, .f32⟩
  | 6 => ⟨S1024, .f32⟩
  | 7 => ⟨S1024, .f32⟩
  | 8 => ⟨S1024, .f32⟩
  | 9 => ⟨S1024x128, .f32⟩
  | 10 => ⟨S128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128, .f32⟩
  | 18 => ⟨S128x512, .f32⟩
  | 19 => ⟨S4x128, .f32⟩
  | 20 => ⟨S4x128, .f32⟩
  | 21 => ⟨S128, .f32⟩
  | 22 => ⟨S128, .f32⟩
  | 23 => ⟨S128, .f32⟩
  | 24 => ⟨S128x128, .f32⟩
  | 25 => ⟨S128, .f32⟩
  | 26 => ⟨S128x64, .f32⟩
  | 27 => ⟨S64, .f32⟩
  | 28 => ⟨S50000, .i32⟩
  | 29 => ⟨S1x50000, .i32⟩
  | 30 => ⟨S1x50000, .i32⟩
  | 31 => ⟨S2x50000, .i32⟩
  | 32 => ⟨S2x850000, .i32⟩
  | 33 => ⟨S1x850000, .i32⟩
  | 34 => ⟨S850000, .i32⟩
  | 35 => ⟨S1x850000, .i32⟩
  | 36 => ⟨S850000, .i32⟩
  | 37 => ⟨S50000x1024, .f32⟩
  | 38 => ⟨S50000x8x128, .f32⟩
  | 39 => ⟨S1x8x128, .f32⟩
  | 40 => ⟨S50000x8x128, .f32⟩
  | 41 => ⟨S50000x8x128, .f32⟩
  | 42 => ⟨S_, .f32⟩
  | 43 => ⟨S50000x8, .f32⟩
  | 44 => ⟨S1x8x128, .f32⟩
  | 45 => ⟨S50000x8x128, .f32⟩
  | 46 => ⟨S50000x8x128, .f32⟩
  | 47 => ⟨S_, .f32⟩
  | 48 => ⟨S50000x8, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x8, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x8, .f32⟩
  | 67 => ⟨S850000x8, .f32⟩
  | 68 => ⟨S_, .f32⟩
  | 69 => ⟨S_, .f32⟩
  | 70 => ⟨S850000x8, .f32⟩
  | 71 => ⟨S850000x8, .i1⟩
  | 72 => ⟨S_, .f32⟩
  | 73 => ⟨S850000x8, .f32⟩
  | 74 => ⟨S850000x8, .f32⟩
  | 75 => ⟨S850000x8, .f32⟩
  | 76 => ⟨S850000x8, .f32⟩
  | 77 => ⟨S_, .f32⟩
  | 78 => ⟨S50000x8, .f32⟩
  | 79 => ⟨S850000x1, .i32⟩
  | 80 => ⟨S50000x8, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x8, .f32⟩
  | 90 => ⟨S_, .f32⟩
  | 91 => ⟨S850000x8, .f32⟩
  | 92 => ⟨S850000x8, .f32⟩
  | 93 => ⟨S850000x8, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x8x128, .f32⟩
  | 103 => ⟨S850000x8x1, .f32⟩
  | 104 => ⟨S850000x8x128, .f32⟩
  | 105 => ⟨S850000x8x128, .f32⟩
  | 106 => ⟨S_, .f32⟩
  | 107 => ⟨S50000x8x128, .f32⟩
  | 108 => ⟨S850000x1, .i32⟩
  | 109 => ⟨S50000x8x128, .f32⟩
  | 110 => ⟨S50000x1024, .f32⟩
  | 111 => ⟨S1x1024, .f32⟩
  | 112 => ⟨S50000x1024, .f32⟩
  | 113 => ⟨S50000x1024, .f32⟩
  | 114 => ⟨S_, .f32⟩
  | 115 => ⟨S_, .f32⟩
  | 116 => ⟨S_, .f32⟩
  | 117 => ⟨S1024, .f32⟩
  | 118 => ⟨S1024, .f32⟩
  | 119 => ⟨S1x1024, .f32⟩
  | 120 => ⟨S50000x1024, .f32⟩
  | 121 => ⟨S50000x1024, .f32⟩
  | 122 => ⟨S1x1024, .f32⟩
  | 123 => ⟨S50000x1024, .f32⟩
  | 124 => ⟨S50000x1024, .f32⟩
  | 125 => ⟨S_, .f32⟩
  | 126 => ⟨S50000x1024, .f32⟩
  | 127 => ⟨S50000x1024, .i1⟩
  | _ => ⟨S50000x15, .f32⟩

abbrev hbmTy0_1 (i : Nat) : BufTy := match i % 128 with
  | 0 => ⟨S_, .f32⟩
  | 1 => ⟨S50000x1024, .f32⟩
  | 2 => ⟨S50000x1024, .i1⟩
  | 3 => ⟨S_, .f32⟩
  | 4 => ⟨S_, .f32⟩
  | 5 => ⟨S50000x1024, .f32⟩
  | 6 => ⟨S50000x1024, .f32⟩
  | 7 => ⟨S50000x1024, .f32⟩
  | 8 => ⟨S_, .f32⟩
  | 9 => ⟨S50000x1024, .f32⟩
  | 10 => ⟨S50000x1024, .f32⟩
  | 11 => ⟨S50000x1024, .f32⟩
  | 12 => ⟨S50000, .i32⟩
  | 13 => ⟨S1x50000, .i32⟩
  | 14 => ⟨S1x50000, .i32⟩
  | 15 => ⟨S2x50000, .i32⟩
  | 16 => ⟨S2x850000, .i32⟩
  | 17 => ⟨S1x850000, .i32⟩
  | 18 => ⟨S850000, .i32⟩
  | 19 => ⟨S1x850000, .i32⟩
  | 20 => ⟨S850000, .i32⟩
  | 21 => ⟨S50000x128, .f32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S_, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .i1⟩
  | 90 => ⟨S_, .f32⟩
  | 91 => ⟨S50000x128, .f32⟩
  | 92 => ⟨S50000x128, .i1⟩
  | 93 => ⟨S_, .f32⟩
  | 94 => ⟨S_, .f32⟩
  | 95 => ⟨S50000x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S1x800000, .i32⟩
  | 103 => ⟨S800000, .i32⟩
  | 104 => ⟨S1x800000, .i32⟩
  | 105 => ⟨S800000, .i32⟩
  | 106 => ⟨S_, .f32⟩
  | 107 => ⟨S800000, .f32⟩
  | 108 => ⟨S_, .f32⟩
  | 109 => ⟨S50000, .f32⟩
  | 110 => ⟨S800000x1, .i32⟩
  | 111 => ⟨S50000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S_, .f32⟩
  | 126 => ⟨S50000, .f32⟩
  | 127 => ⟨S50000, .f32⟩
  | _ => ⟨S50000x15, .f32⟩

abbrev hbmTy0_2 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S50000x128, .f32⟩
  | 9 => ⟨S_, .f32⟩
  | 10 => ⟨S_, .f32⟩
  | 11 => ⟨S_, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .i1⟩
  | 23 => ⟨S_, .f32⟩
  | 24 => ⟨S50000x128, .f32⟩
  | 25 => ⟨S50000x128, .i1⟩
  | 26 => ⟨S_, .f32⟩
  | 27 => ⟨S_, .f32⟩
  | 28 => ⟨S50000x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S50000x128, .f32⟩
  | 35 => ⟨S50000, .i32⟩
  | 36 => ⟨S1x50000, .i32⟩
  | 37 => ⟨S1x50000, .i32⟩
  | 38 => ⟨S2x50000, .i32⟩
  | 39 => ⟨S2x850000, .i32⟩
  | 40 => ⟨S1x850000, .i32⟩
  | 41 => ⟨S850000, .i32⟩
  | 42 => ⟨S1x850000, .i32⟩
  | 43 => ⟨S850000, .i32⟩
  | 44 => ⟨S50000x512, .f32⟩
  | 45 => ⟨S50000x4x128, .f32⟩
  | 46 => ⟨S1x4x128, .f32⟩
  | 47 => ⟨S50000x4x128, .f32⟩
  | 48 => ⟨S50000x4x128, .f32⟩
  | 49 => ⟨S_, .f32⟩
  | 50 => ⟨S50000x4, .f32⟩
  | 51 => ⟨S1x4x128, .f32⟩
  | 52 => ⟨S50000x4x128, .f32⟩
  | 53 => ⟨S50000x4x128, .f32⟩
  | 54 => ⟨S_, .f32⟩
  | 55 => ⟨S50000x4, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x4, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x4, .f32⟩
  | 74 => ⟨S850000x4, .f32⟩
  | 75 => ⟨S_, .f32⟩
  | 76 => ⟨S_, .f32⟩
  | 77 => ⟨S850000x4, .f32⟩
  | 78 => ⟨S850000x4, .i1⟩
  | 79 => ⟨S_, .f32⟩
  | 80 => ⟨S850000x4, .f32⟩
  | 81 => ⟨S850000x4, .f32⟩
  | 82 => ⟨S850000x4, .f32⟩
  | 83 => ⟨S850000x4, .f32⟩
  | 84 => ⟨S_, .f32⟩
  | 85 => ⟨S50000x4, .f32⟩
  | 86 => ⟨S850000x1, .i32⟩
  | 87 => ⟨S50000x4, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000x4, .f32⟩
  | 97 => ⟨S_, .f32⟩
  | 98 => ⟨S850000x4, .f32⟩
  | 99 => ⟨S850000x4, .f32⟩
  | 100 => ⟨S850000x4, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x4x128, .f32⟩
  | 110 => ⟨S850000x4x1, .f32⟩
  | 111 => ⟨S850000x4x128, .f32⟩
  | 112 => ⟨S850000x4x128, .f32⟩
  | 113 => ⟨S_, .f32⟩
  | 114 => ⟨S50000x4x128, .f32⟩
  | 115 => ⟨S850000x1, .i32⟩
  | 116 => ⟨S50000x4x128, .f32⟩
  | 117 => ⟨S_, .f32⟩
  | 118 => ⟨S50000x128, .f32⟩
  | 119 => ⟨S_, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S_, .f32⟩
  | 127 => ⟨S_, .f32⟩
  | _ => ⟨S50000x15, .f32⟩

abbrev hbmTy0_3 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .i1⟩
  | 11 => ⟨S_, .f32⟩
  | 12 => ⟨S50000x128, .f32⟩
  | 13 => ⟨S50000x128, .i1⟩
  | 14 => ⟨S_, .f32⟩
  | 15 => ⟨S_, .f32⟩
  | 16 => ⟨S50000x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S50000x128, .f32⟩
  | 23 => ⟨S_, .f32⟩
  | 24 => ⟨S1024x128, .f32⟩
  | 25 => ⟨S50000x1, .i32⟩
  | 26 => ⟨S1024x128, .f32⟩
  | 27 => ⟨S_, .f32⟩
  | 28 => ⟨S50000, .f32⟩
  | 29 => ⟨S_, .f32⟩
  | 30 => ⟨S1024, .f32⟩
  | 31 => ⟨S50000x1, .i32⟩
  | 32 => ⟨S1024, .f32⟩
  | 33 => ⟨S_, .f32⟩
  | 34 => ⟨S1024, .f32⟩
  | 35 => ⟨S1024, .f32⟩
  | 36 => ⟨S1024x1, .f32⟩
  | 37 => ⟨S1024x128, .f32⟩
  | 38 => ⟨S1024x128, .f32⟩
  | 39 => ⟨S1024x128, .f32⟩
  | 40 => ⟨S1x128, .f32⟩
  | 41 => ⟨S1024x128, .f32⟩
  | 42 => ⟨S1024x128, .f32⟩
  | 43 => ⟨S_, .f32⟩
  | 44 => ⟨S1024x128, .f32⟩
  | 45 => ⟨S1024x128, .f32⟩
  | 46 => ⟨S1024x64, .f32⟩
  | 47 => ⟨S1x64, .f32⟩
  | 48 => ⟨S1024x64, .f32⟩
  | 49 => ⟨S1024x64, .f32⟩
  | _ => ⟨S50000x15, .f32⟩

abbrev hbmTy (i : Nat) : BufTy := match i / 128 with
  | 0 => hbmTy0_0 i
  | 1 => hbmTy0_1 i
  | 2 => hbmTy0_2 i
  | 3 => hbmTy0_3 i
  | _ => ⟨S50000x15, .f32⟩

abbrev bufTy : (tb : Table) → Fin (tcTables nBuf tb) → BufTy
  | .hbm, ⟨i, _⟩ => hbmTy i
  | _, _ => ⟨S50000x15, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_0 : Ref sig .tc := ⟨.hbm, 47, rfl⟩
abbrev main_v18 : Ref sig .tc := ⟨.hbm, 48, rfl⟩
abbrev main_c : Ref sig .tc := ⟨.hbm, 49, rfl⟩
abbrev main_v19 : Ref sig .tc := ⟨.hbm, 50, rfl⟩
abbrev main_v20 : Ref sig .tc := ⟨.hbm, 51, rfl⟩
abbrev main_c_1 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_2 : Ref sig .tc := ⟨.hbm, 58, rfl⟩
abbrev main_v26 : Ref sig .tc := ⟨.hbm, 59, rfl⟩
abbrev main_v27 : Ref sig .tc := ⟨.hbm, 60, rfl⟩
abbrev main_c_3 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_4 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v34 : Ref sig .tc := ⟨.hbm, 75, rfl⟩
abbrev main_v35 : Ref sig .tc := ⟨.hbm, 76, rfl⟩
abbrev main_cst_5 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_c_6 : Ref sig .tc := ⟨.hbm, 81, rfl⟩
abbrev main_v39 : Ref sig .tc := ⟨.hbm, 82, rfl⟩
abbrev main_v40 : Ref sig .tc := ⟨.hbm, 83, rfl⟩
abbrev main_c_7 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_8 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_c_9 : Ref sig .tc := ⟨.hbm, 94, rfl⟩
abbrev main_v49 : Ref sig .tc := ⟨.hbm, 95, rfl⟩
abbrev main_v50 : Ref sig .tc := ⟨.hbm, 96, rfl⟩
abbrev main_c_10 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_11 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_12 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_call1_cst : Ref sig .tc := ⟨.hbm, 125, rfl⟩
abbrev main_call1_v0 : Ref sig .tc := ⟨.hbm, 126, rfl⟩
abbrev main_call1_v1 : Ref sig .tc := ⟨.hbm, 127, rfl⟩
abbrev main_call1_cst_0 : Ref sig .tc := ⟨.hbm, 128, rfl⟩
abbrev main_call1_v2 : Ref sig .tc := ⟨.hbm, 129, rfl⟩
abbrev main_call1_v3 : Ref sig .tc := ⟨.hbm, 130, rfl⟩
abbrev main_call1_cst_1 : Ref sig .tc := ⟨.hbm, 131, rfl⟩
abbrev main_call1_call0_v0 : Ref sig .tc := ⟨.hbm, 132, rfl⟩
abbrev main_call1_call0_v1 : Ref sig .tc := ⟨.hbm, 133, rfl⟩
abbrev main_call1_v4 : Ref sig .tc := ⟨.hbm, 134, rfl⟩
abbrev main_call1_v5 : Ref sig .tc := ⟨.hbm, 135, rfl⟩
abbrev main_call1_cst_2 : Ref sig .tc := ⟨.hbm, 136, rfl⟩
abbrev main_call1_v6 : Ref sig .tc := ⟨.hbm, 137, rfl⟩
abbrev main_call1_v7 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_cst_13 : Ref sig .tc := ⟨.hbm, 150, rfl⟩
abbrev main_v87 : Ref sig .tc := ⟨.hbm, 151, rfl⟩
abbrev main_cst_14 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_cst_15 : Ref sig .tc := ⟨.hbm, 156, rfl⟩
abbrev main_v91 : Ref sig .tc := ⟨.hbm, 157, rfl⟩
abbrev main_v92 : Ref sig .tc := ⟨.hbm, 158, rfl⟩
abbrev main_cst_16 : Ref sig .tc := ⟨.hbm, 159, rfl⟩
abbrev main_v93 : Ref sig .tc := ⟨.hbm, 160, rfl⟩
abbrev main_v94 : Ref sig .tc := ⟨.hbm, 161, rfl⟩
abbrev main_cst_17 : Ref sig .tc := ⟨.hbm, 162, rfl⟩
abbrev main_call2_v0 : Ref sig .tc := ⟨.hbm, 163, rfl⟩
abbrev main_call2_v1 : Ref sig .tc := ⟨.hbm, 164, rfl⟩
abbrev main_v95 : Ref sig .tc := ⟨.hbm, 165, rfl⟩
abbrev main_c_18 : Ref sig .tc := ⟨.hbm, 166, rfl⟩
abbrev main_v96 : Ref sig .tc := ⟨.hbm, 167, rfl⟩
abbrev main_v97 : Ref sig .tc := ⟨.hbm, 168, rfl⟩
abbrev main_c_19 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_c_20 : Ref sig .tc := ⟨.hbm, 175, rfl⟩
abbrev main_v103 : Ref sig .tc := ⟨.hbm, 176, rfl⟩
abbrev main_v104 : Ref sig .tc := ⟨.hbm, 177, rfl⟩
abbrev main_c_21 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_c_22 : Ref sig .tc := ⟨.hbm, 185, rfl⟩
abbrev main_v111 : Ref sig .tc := ⟨.hbm, 186, rfl⟩
abbrev main_v112 : Ref sig .tc := ⟨.hbm, 187, rfl⟩
abbrev main_c_23 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_cst_24 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_cst_25 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_call3_cst : Ref sig .tc := ⟨.hbm, 215, rfl⟩
abbrev main_call3_v0 : Ref sig .tc := ⟨.hbm, 216, rfl⟩
abbrev main_call3_v1 : Ref sig .tc := ⟨.hbm, 217, rfl⟩
abbrev main_call3_cst_0 : Ref sig .tc := ⟨.hbm, 218, rfl⟩
abbrev main_call3_v2 : Ref sig .tc := ⟨.hbm, 219, rfl⟩
abbrev main_call3_v3 : Ref sig .tc := ⟨.hbm, 220, rfl⟩
abbrev main_call3_cst_1 : Ref sig .tc := ⟨.hbm, 221, rfl⟩
abbrev main_call3_call0_v0 : Ref sig .tc := ⟨.hbm, 222, rfl⟩
abbrev main_call3_call0_v1 : Ref sig .tc := ⟨.hbm, 223, rfl⟩
abbrev main_call3_v4 : Ref sig .tc := ⟨.hbm, 224, rfl⟩
abbrev main_call3_v5 : Ref sig .tc := ⟨.hbm, 225, rfl⟩
abbrev main_call3_cst_2 : Ref sig .tc := ⟨.hbm, 226, rfl⟩
abbrev main_call3_v6 : Ref sig .tc := ⟨.hbm, 227, rfl⟩
abbrev main_call3_v7 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_cst_26 : Ref sig .tc := ⟨.hbm, 234, rfl⟩
abbrev main_v142 : Ref sig .tc := ⟨.hbm, 235, rfl⟩
abbrev main_cst_27 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_c_28 : Ref sig .tc := ⟨.hbm, 240, rfl⟩
abbrev main_v146 : Ref sig .tc := ⟨.hbm, 241, rfl⟩
abbrev main_v147 : Ref sig .tc := ⟨.hbm, 242, rfl⟩
abbrev main_c_29 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_cst_30 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_cst_31 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_cst_32 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_v176 : Ref sig .tc := ⟨.hbm, 275, rfl⟩
abbrev main_call4_cst : Ref sig .tc := ⟨.hbm, 276, rfl⟩
abbrev main_call4_v0 : Ref sig .tc := ⟨.hbm, 277, rfl⟩
abbrev main_call4_v1 : Ref sig .tc := ⟨.hbm, 278, rfl⟩
abbrev main_call4_cst_0 : Ref sig .tc := ⟨.hbm, 279, rfl⟩
abbrev main_call4_v2 : Ref sig .tc := ⟨.hbm, 280, rfl⟩
abbrev main_call4_v3 : Ref sig .tc := ⟨.hbm, 281, rfl⟩
abbrev main_call4_cst_1 : Ref sig .tc := ⟨.hbm, 282, rfl⟩
abbrev main_call4_call0_v0 : Ref sig .tc := ⟨.hbm, 283, rfl⟩
abbrev main_call4_call0_v1 : Ref sig .tc := ⟨.hbm, 284, rfl⟩
abbrev main_call4_v4 : Ref sig .tc := ⟨.hbm, 285, rfl⟩
abbrev main_call4_v5 : Ref sig .tc := ⟨.hbm, 286, rfl⟩
abbrev main_call4_cst_2 : Ref sig .tc := ⟨.hbm, 287, rfl⟩
abbrev main_call4_v6 : Ref sig .tc := ⟨.hbm, 288, rfl⟩
abbrev main_call4_v7 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_cst_33 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_cst_34 : Ref sig .tc := ⟨.hbm, 310, rfl⟩
abbrev main_v196 : Ref sig .tc := ⟨.hbm, 311, rfl⟩
abbrev main_c_35 : Ref sig .tc := ⟨.hbm, 312, rfl⟩
abbrev main_v197 : Ref sig .tc := ⟨.hbm, 313, rfl⟩
abbrev main_v198 : Ref sig .tc := ⟨.hbm, 314, rfl⟩
abbrev main_c_36 : Ref sig .tc := ⟨.hbm, 315, rfl⟩
abbrev main_v199 : Ref sig .tc := ⟨.hbm, 316, rfl⟩
abbrev main_v200 : Ref sig .tc := ⟨.hbm, 317, rfl⟩
abbrev main_v201 : Ref sig .tc := ⟨.hbm, 318, rfl⟩
abbrev main_v202 : Ref sig .tc := ⟨.hbm, 319, rfl⟩
abbrev main_v203 : Ref sig .tc := ⟨.hbm, 320, rfl⟩
abbrev main_c_37 : Ref sig .tc := ⟨.hbm, 321, rfl⟩
abbrev main_v204 : Ref sig .tc := ⟨.hbm, 322, rfl⟩
abbrev main_v205 : Ref sig .tc := ⟨.hbm, 323, rfl⟩
abbrev main_c_38 : Ref sig .tc := ⟨.hbm, 324, rfl⟩
abbrev main_v206 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_v211 : Ref sig .tc := ⟨.hbm, 330, rfl⟩
abbrev main_cst_39 : Ref sig .tc := ⟨.hbm, 331, rfl⟩
abbrev main_call5_cst : Ref sig .tc := ⟨.hbm, 332, rfl⟩
abbrev main_call5_v0 : Ref sig .tc := ⟨.hbm, 333, rfl⟩
abbrev main_call5_v1 : Ref sig .tc := ⟨.hbm, 334, rfl⟩
abbrev main_call5_v2 : Ref sig .tc := ⟨.hbm, 335, rfl⟩
abbrev main_call5_v3 : Ref sig .tc := ⟨.hbm, 336, rfl⟩
abbrev main_call5_v4 : Ref sig .tc := ⟨.hbm, 337, rfl⟩
abbrev main_v212 : Ref sig .tc := ⟨.hbm, 338, rfl⟩
abbrev main_v213 : Ref sig .tc := ⟨.hbm, 339, rfl⟩
abbrev main_cst_40 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_c_41 : Ref sig .tc := ⟨.hbm, 344, rfl⟩
abbrev main_v217 : Ref sig .tc := ⟨.hbm, 345, rfl⟩
abbrev main_v218 : Ref sig .tc := ⟨.hbm, 346, rfl⟩
abbrev main_c_42 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_v223 : Ref sig .tc := ⟨.hbm, 352, rfl⟩
abbrev main_cst_43 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_c_44 : Ref sig .tc := ⟨.hbm, 357, rfl⟩
abbrev main_v227 : Ref sig .tc := ⟨.hbm, 358, rfl⟩
abbrev main_v228 : Ref sig .tc := ⟨.hbm, 359, rfl⟩
abbrev main_c_45 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_v235 : Ref sig .tc := ⟨.hbm, 367, rfl⟩
abbrev main_v236 : Ref sig .tc := ⟨.hbm, 368, rfl⟩
abbrev main_cst_46 : Ref sig .tc := ⟨.hbm, 369, rfl⟩
abbrev main_v237 : Ref sig .tc := ⟨.hbm, 370, rfl⟩
abbrev main_v238 : Ref sig .tc := ⟨.hbm, 371, rfl⟩
abbrev main_v239 : Ref sig .tc := ⟨.hbm, 372, rfl⟩
abbrev main_cst_47 : Ref sig .tc := ⟨.hbm, 373, rfl⟩
abbrev main_v240 : Ref sig .tc := ⟨.hbm, 374, rfl⟩
abbrev main_cst_48 : Ref sig .tc := ⟨.hbm, 375, rfl⟩
abbrev main_v241 : Ref sig .tc := ⟨.hbm, 376, rfl⟩
abbrev main_v242 : Ref sig .tc := ⟨.hbm, 377, rfl⟩
abbrev main_v243 : Ref sig .tc := ⟨.hbm, 378, rfl⟩
abbrev main_v244 : Ref sig .tc := ⟨.hbm, 379, rfl⟩
abbrev main_v245 : Ref sig .tc := ⟨.hbm, 380, rfl⟩
abbrev main_cst_49 : Ref sig .tc := ⟨.hbm, 381, rfl⟩
abbrev main_v246 : Ref sig .tc := ⟨.hbm, 382, rfl⟩
abbrev main_v247 : Ref sig .tc := ⟨.hbm, 383, rfl⟩
abbrev main_v248 : Ref sig .tc := ⟨.hbm, 384, rfl⟩
abbrev main_v249 : Ref sig .tc := ⟨.hbm, 385, rfl⟩
abbrev main_v250 : Ref sig .tc := ⟨.hbm, 386, rfl⟩
abbrev main_v251 : Ref sig .tc := ⟨.hbm, 387, rfl⟩
abbrev main_v252 : Ref sig .tc := ⟨.hbm, 388, rfl⟩
abbrev main_v253 : Ref sig .tc := ⟨.hbm, 389, rfl⟩
abbrev main_v254 : Ref sig .tc := ⟨.hbm, 390, rfl⟩
abbrev main_v255 : Ref sig .tc := ⟨.hbm, 391, rfl⟩
abbrev main_call6_cst : Ref sig .tc := ⟨.hbm, 392, rfl⟩
abbrev main_call6_v0 : Ref sig .tc := ⟨.hbm, 393, rfl⟩
abbrev main_call6_v1 : Ref sig .tc := ⟨.hbm, 394, rfl⟩
abbrev main_call6_cst_0 : Ref sig .tc := ⟨.hbm, 395, rfl⟩
abbrev main_call6_v2 : Ref sig .tc := ⟨.hbm, 396, rfl⟩
abbrev main_call6_v3 : Ref sig .tc := ⟨.hbm, 397, rfl⟩
abbrev main_call6_cst_1 : Ref sig .tc := ⟨.hbm, 398, rfl⟩
abbrev main_call6_call0_v0 : Ref sig .tc := ⟨.hbm, 399, rfl⟩
abbrev main_call6_call0_v1 : Ref sig .tc := ⟨.hbm, 400, rfl⟩
abbrev main_call6_v4 : Ref sig .tc := ⟨.hbm, 401, rfl⟩
abbrev main_call6_v5 : Ref sig .tc := ⟨.hbm, 402, rfl⟩
abbrev main_call6_cst_2 : Ref sig .tc := ⟨.hbm, 403, rfl⟩
abbrev main_call6_v6 : Ref sig .tc := ⟨.hbm, 404, rfl⟩
abbrev main_call6_v7 : Ref sig .tc := ⟨.hbm, 405, rfl⟩
abbrev main_v256 : Ref sig .tc := ⟨.hbm, 406, rfl⟩
abbrev main_cst_50 : Ref sig .tc := ⟨.hbm, 407, rfl⟩
abbrev main_v257 : Ref sig .tc := ⟨.hbm, 408, rfl⟩
abbrev main_v258 : Ref sig .tc := ⟨.hbm, 409, rfl⟩
abbrev main_v259 : Ref sig .tc := ⟨.hbm, 410, rfl⟩
abbrev main_cst_51 : Ref sig .tc := ⟨.hbm, 411, rfl⟩
abbrev main_v260 : Ref sig .tc := ⟨.hbm, 412, rfl⟩
abbrev main_cst_52 : Ref sig .tc := ⟨.hbm, 413, rfl⟩
abbrev main_v261 : Ref sig .tc := ⟨.hbm, 414, rfl⟩
abbrev main_v262 : Ref sig .tc := ⟨.hbm, 415, rfl⟩
abbrev main_v263 : Ref sig .tc := ⟨.hbm, 416, rfl⟩
abbrev main_cst_53 : Ref sig .tc := ⟨.hbm, 417, rfl⟩
abbrev main_v264 : Ref sig .tc := ⟨.hbm, 418, rfl⟩
abbrev main_v265 : Ref sig .tc := ⟨.hbm, 419, rfl⟩
abbrev main_v266 : Ref sig .tc := ⟨.hbm, 420, rfl⟩
abbrev main_v267 : Ref sig .tc := ⟨.hbm, 421, rfl⟩
abbrev main_v268 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_v272 : Ref sig .tc := ⟨.hbm, 426, rfl⟩
abbrev main_call7_cst : Ref sig .tc := ⟨.hbm, 427, rfl⟩
abbrev main_call7_v0 : Ref sig .tc := ⟨.hbm, 428, rfl⟩
abbrev main_v273 : Ref sig .tc := ⟨.hbm, 429, rfl⟩
abbrev main_v274 : Ref sig .tc := ⟨.hbm, 430, rfl⟩
abbrev main_v275 : Ref sig .tc := ⟨.hbm, 431, rfl⟩
abbrev main_v276 : Ref sig .tc := ⟨.hbm, 432, rfl⟩
abbrev main_v277 : Ref sig .tc := ⟨.hbm, 433, rfl⟩

abbrev nD : Nat := 1
abbrev τ : Topo := Topo.v7x

variable {F : FTy → Type} [FloatOps F]
-- ==== Proof.Frames.lean ====
/- The parts of the claim that concern no value: that each program
   leaves its arguments and its semaphore counters as they were. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_affine
public import Idealize.ShloMosaic.Lib.Quiescent

@[expose] public section

noncomputable section

namespace Cert.Proof

open Idealize.ShloMosaic Idealize.SL.Sem

/-- The kernel terminates and leaves its arguments and its semaphores unchanged. -/
theorem frame_kernel : Cert.quiescent_Kernel := fun m g _ => Cert.Kernel.Gen.frame m g

/-- The same of the kernel read over the extended reals. -/
theorem frame_ideal : Cert.quiescent_KernelIdeal := fun m g _ => Cert.KernelIdeal.Gen.frame m g

/-- The same again for the inputs the precondition admits. -/
theorem frame_ideal_pre : Cert.quiescent_KernelIdeal_pre_finite_affine := fun m g _ => Cert.KernelIdeal.Gen.frame m g

/-- The reference terminates and leaves its arguments unchanged; it declares no semaphore. -/
theorem frame_reference : Cert.quiescent_ReferenceIdeal := fun m g _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- The same for the inputs the precondition admits. -/
theorem frame_reference_pre : Cert.quiescent_ReferenceIdeal_pre_finite_affine := fun m g _ =>
  frame_reference m g trivial

end Cert.Proof

end
-- ==== Proof.KernelRun.lean ====
/- The kernel's run read at every buffer that outlives it. The generated frame states what becomes of the arguments;
   here the same run is stated at all contents: the contents after the last segment of @main. -/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer @main declares ends at the contents `W18`, those after the last region. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W18 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun _ h _ => h)

end Cert.KernelIdeal.Run

end
-- ==== Proof.Spec.lean ====
/- The whole-array functions the kernel's six grid regions compute, over the extended reals, and the fact that each of
   them works on a block of rows as on the whole array: matrix products, and an affine map per column followed by the
   exponential linear unit. -/
module

public import Idealize.ShloMosaic.Lib.ValueIdx
public import Idealize.ShloMosaic.Lib.ValueLayout
public import Idealize.ShloMosaic.Lib.MatmulPlain
public import Idealize.ShloMosaic.Lib.Pipeline.Value

@[expose] public section

noncomputable section

namespace Cert.Spec

open Idealize.ShloMosaic Idealize.ShloMosaic.ValueIdx

/-- The matrix product of an M×K and a K×N array. -/
def gemm {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- The exponential linear unit as the kernel spells it: `v` where positive, else `exp (min v 0) - 1`. -/
def elu (v : EReal) : EReal :=
  Scalar.select (Scalar.cmpf (F := Ideal) (φ := .f32) .ogt v (FloatOps.ofBits (F := Ideal) .f32 0x00000000#32)) v
    (FloatOps.subf (F := Ideal) (φ := .f32) (FloatOps.exp (F := Ideal) (φ := .f32) (FloatOps.minimumf (F := Ideal) (φ := .f32) v (FloatOps.ofBits (F := Ideal) .f32 0x00000000#32)))
      (FloatOps.ofBits (F := Ideal) .f32 0x3F800000#32))

/-- Each column scaled and shifted, then the exponential linear unit at every element. -/
def bnElu {M K : Nat} (g : (⟨2, ![M, K]⟩ : Shape).Idx → EReal) (sc sh : (⟨2, ![1, K]⟩ : Shape).Idx → EReal) :
    (⟨2, ![M, K]⟩ : Shape).Idx → EReal :=
  fun i => elu (g i * sc (ix2 0 (i 1)) + sh (ix2 0 (i 1)))

/-- Elementwise sum of two arrays. -/
def plus {s : Shape} (a b : s.Idx → EReal) : s.Idx → EReal := fun i => a i + b i

/-- Row `r` of block `t` of blocks of 1000 rows, in a 50000-row array. -/
def rowIx {K : Nat} (t : Fin 50) (i : (⟨2, ![1000, K]⟩ : Shape).Idx) : (⟨2, ![50000, K]⟩ : Shape).Idx :=
  ix2 ⟨t.val * 1000 + (i 0).val, by have := idx2_lt0 i; have := t.isLt; omega⟩ (i 1)

/-- Block `t` of 1000 rows of a 50000-row array. -/
def rowsOf {K : Nat} {α : Type} (t : Fin 50) (X : (⟨2, ![50000, K]⟩ : Shape).Idx → α) : (⟨2, ![1000, K]⟩ : Shape).Idx → α :=
  fun i => X (rowIx t i)

/-- A block of rows of a product is the product of the block. -/
theorem gemm_rows {K N : Nat} (t : Fin 50) (A : (⟨2, ![50000, K]⟩ : Shape).Idx → EReal) (B : (⟨2, ![K, N]⟩ : Shape).Idx → EReal) :
    gemm (rowsOf t A) B = rowsOf t (gemm A B) := rfl

/-- A block of rows of the scaled, shifted and activated array is that of the block. -/
theorem bnElu_rows {K : Nat} (t : Fin 50) (g : (⟨2, ![50000, K]⟩ : Shape).Idx → EReal) (sc sh : (⟨2, ![1, K]⟩ : Shape).Idx → EReal) :
    bnElu (rowsOf t g) sc sh = rowsOf t (bnElu g sc sh) := rfl

/-- A block of rows of a sum is the sum of the blocks. -/
theorem plus_rows {K : Nat} (t : Fin 50) (a b : (⟨2, ![50000, K]⟩ : Shape).Idx → EReal) :
    plus (rowsOf t a) (rowsOf t b) = rowsOf t (plus a b) := rfl

/-- A rectangle of 1000 whole rows starting at row `t * 1000` embeds its indices as `rowIx`. -/
theorem unit_emb_rows {K : Nat} (off size : Fin 2 → Nat) (inb) (t : Fin 50) (h0 : off 0 = t.val * 1000) (h1 : off 1 = 0)
    (i : (Rect.unit (s := ⟨2, ![50000, K]⟩) off size inb).shape.Idx) (j : (⟨2, ![1000, K]⟩ : Shape).Idx)
    (hj : ∀ a, (i a).val = (j a).val) :
    (Rect.unit (s := ⟨2, ![50000, K]⟩) off size inb).emb i = rowIx t j := by
  funext a
  refine Fin.ext ?_
  rw [Rect.emb_apply]
  match a with
  | ⟨0, _⟩ => show off 0 + 1 * (i 0).val = t.val * 1000 + (j 0).val; rw [h0, hj 0]; omega
  | ⟨1, _⟩ => show off 1 + 1 * (i 1).val = (j 1).val; rw [h1, hj 1]; omega

/-- An index lies in the rectangle of 1000 whole rows that its row number names. -/
theorem mem_unit_rows {K : Nat} (off size : Fin 2 → Nat) (inb) (t : Nat) (h0 : off 0 = t * 1000) (h1 : off 1 = 0)
    (hs0 : size 0 = 1000) (hs1 : size 1 = K) (i : (⟨2, ![50000, K]⟩ : Shape).Idx) (ht : t = (i 0).val / 1000) :
    i ∈ (Rect.unit (s := ⟨2, ![50000, K]⟩) off size inb).set := by
  rw [Rect.mem_set_unit]
  intro a
  match a with
  | ⟨0, _⟩ => show off 0 ≤ (i 0).val ∧ (i 0).val < off 0 + size 0; rw [h0, hs0]; omega
  | ⟨1, _⟩ => show off 1 ≤ (i 1).val ∧ (i 1).val < off 1 + size 1; rw [h1, hs1]; have := idx2_lt1 i; omega

/-- The word of zero reads as zero, -/
theorem ofBits_zero : (FloatOps.ofBits (F := Ideal) .f32 0x00000000#32 : EReal) = 0 := by
  simp [Ideal.ofBits_def, Ideal.ofBits, Ideal.ieee, -EReal.coe_mul]

/-- and the word of one as one. -/
theorem ofBits_one : (FloatOps.ofBits (F := Ideal) .f32 0x3F800000#32 : EReal) = 1 := by
  simp [Ideal.ofBits_def, Ideal.ofBits, Ideal.ieee, -EReal.coe_mul]; norm_num

/-- A matrix multiplication into zeros is the matrix product. -/
theorem matmul_eq_gemm {M K N : Nat} (prec : Option ContractPrecision)
    (A : FVec Ideal ⟨2, ![M, K]⟩ .f32) (B : FVec Ideal ⟨2, ![K, N]⟩ .f32) :
    FloatOps.matmul (DotDims.plain M K N) prec A B (constant ⟨2, ![M, N]⟩ .f32 0x00000000#32) = gemm A B := by
  funext i
  obtain ⟨r, c, rfl⟩ : ∃ r c, i = ix2 r c := ⟨_, _, eq_ix2 i⟩
  rw [Ideal.matmul_plain_apply]
  show FloatOps.ofBits (F := Ideal) .f32 0x00000000#32 + _ = _
  rw [ofBits_zero, zero_add]
  rfl

/-- A row broadcast over all rows reads its column. -/
theorem broadcast_row {M K : Nat} {α : Type} (v : (⟨2, ![1, K]⟩ : Shape).Idx → α) (h : (⟨2, ![1, K]⟩ : Shape).Broadcasts ⟨2, ![M, K]⟩)
    (i : (⟨2, ![M, K]⟩ : Shape).Idx) : broadcastTo ⟨2, ![M, K]⟩ v h i = v (ix2 0 (i 1)) := by
  obtain ⟨r, c, rfl⟩ : ∃ r c, i = ix2 r c := ⟨_, _, eq_ix2 i⟩
  exact broadcastTo_1b_ab_apply v h _ _

/-- A rectangle of the whole array embeds every index as itself. -/
theorem unit_emb_whole {s : Shape} (off size : Fin s.rank → Nat) (inb) (h0 : ∀ a, off a = 0)
    (i : (Rect.unit (s := s) off size inb).shape.Idx) (j : s.Idx) (hj : ∀ a, (i a).val = (j a).val) :
    (Rect.unit (s := s) off size inb).emb i = j := by
  funext a
  refine Fin.ext ?_
  rw [Rect.emb_apply]
  show off a + 1 * (i a).val = (j a).val
  rw [h0, hj]; omega

/-- The kernel's vector operations for scale, shift and activation, read as `bnElu`. -/
theorem bnElu_eq {M K : Nat} (x : FVec Ideal ⟨2, ![M, K]⟩ .f32) (sc sh : FVec Ideal ⟨2, ![1, K]⟩ .f32)
    (h : (⟨2, ![1, K]⟩ : Shape).Broadcasts ⟨2, ![M, K]⟩) (y : FVec Ideal ⟨2, ![M, K]⟩ .f32)
    (hy : y = addf (mulf x (broadcastTo _ sc h)) (broadcastTo _ sh h)) :
    select (cmpf .ogt y (broadcast _ (Scalar.ofBits .f32 0x00000000#32))) y
      (subf (exp (minimumf y (broadcast _ (Scalar.ofBits .f32 0x00000000#32)))) (broadcast _ (Scalar.ofBits .f32 0x3F800000#32)))
      = bnElu x sc sh := by
  funext i
  have e : y i = x i * sc (ix2 0 (i 1)) + sh (ix2 0 (i 1)) := by
    rw [hy, ← broadcast_row sc h i, ← broadcast_row sh h i]; rfl
  unfold bnElu
  rw [← e]
  rfl

/-- Fifty blocks of 1000 whole rows, one per grid point, reach every index of a 50000-row array. -/
theorem cover_rows {N K : Nat} (hN : N = 50) (fl : Fin N → Bool) (hf : ∀ t, fl t = true) (off : Fin N → Fin 2 → Nat) (size : Fin 2 → Nat) (inb : ∀ t a, off t a + size a ≤ (⟨2, ![50000, K]⟩ : Shape).size a)
    (S : Fin N → Finset (⟨2, ![50000, K]⟩ : Shape).Idx) (hS : ∀ t, S t = (Rect.unit (s := ⟨2, ![50000, K]⟩) (off t) size (inb t)).set)
    (ho : ∀ t, off t 0 = t.val * 1000 ∧ off t 1 = 0) (h0 : size 0 = 1000) (h1 : size 1 = K) (i : (⟨2, ![50000, K]⟩ : Shape).Idx) :
    ∃ t, fl t = true ∧ i ∈ S t := by
  have hi := idx2_lt0 i
  refine ⟨⟨(i 0).val / 1000, by omega⟩, hf _, ?_⟩
  rw [hS]
  exact mem_unit_rows _ _ _ _ (ho _).1 (ho _).2 h0 h1 i rfl

/-- One block that is the whole array reaches every index. -/
theorem cover_whole {N : Nat} {s : Shape} (t : Fin N) (fl : Fin N → Bool) (hf : fl t = true) (off size : Fin s.rank → Nat) (inb)
    (S : Fin N → Finset s.Idx) (hS : S t = (Rect.unit (s := s) off size inb).set) (ho : ∀ a, off a = 0)
    (hs : ∀ a, size a = s.size a) (i : s.Idx) : ∃ t, fl t = true ∧ i ∈ S t := by
  refine ⟨t, hf, ?_⟩
  rw [hS, Rect.mem_set_unit]
  intro a
  rw [ho, hs]
  exact ⟨Nat.zero_le _, by have := (i a).isLt; omega⟩

end Cert.Spec
-- ==== Proof.Regions.lean ====
/- What each of the kernel's six grid regions leaves in its output arrays, as a whole-array function of the arrays the
   region reads: every grid point writes back its block of 1000 rows of one whole-array function, and the blocks tile
   the array (the last region has one point, whose block is the whole array). Per window, `offK_W` is the place of a
   point's block, `inK_W` what a point reads, `flushedK_W` what it writes back and `finalK_W` the array at the end. -/
module

public import proofs.«01_k».proof.Proof.Gen.KernelIdeal.Frame
public import proofs.«01_k».proof.Proof.Spec

@[expose] public section

set_option maxRecDepth 16384

noncomputable section

namespace Cert.KernelIdeal.Regions

open Idealize.ShloMosaic Idealize.ShloMosaic.TcCoe Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

/-- The zero offset, written as a pair and as a function. -/
theorem hz : (![0, 0] : Fin 2 → Nat) = fun _ => 0 := funext fun a => by fin_cases a <;> rfl

/-! ## Region 0: the first product and its two attention projections -/

/-- The block of region 0's window 0 at point `t` starts at row `1000 t`. -/
theorem off0_0 : ∀ t : Fin cfg0.N, win0_0.index t 0 * win0_0.size 0 = t.val * 1000 ∧ win0_0.index t 1 * win0_0.size 1 = 0 := by
  decide +kernel
/-- At point `t` region 0 reads rows `1000 t` to `1000 t + 999` of `arg0`. -/
theorem in0_0 (c : Dev nD) (t : Fin cfg0.N) : iblk0 V c 0 t = rowsOf (t.cast N_0) (V c main_arg0) :=
  funext fun i => congrArg (V c main_arg0) (unit_emb_rows _ _ _ (t.cast N_0) (off0_0 t).1 (off0_0 t).2 _ i fun _ => rfl)
/-- At every point region 0 reads the whole of `arg3`. -/
theorem in0_1 (c : Dev nD) (t : Fin cfg0.N) : iblk0 V c 1 t = V c main_arg3 :=
  funext fun i => congrArg (V c main_arg3) (unit_emb_whole _ _ _ (by decide +revert) _ i fun _ => rfl)
/-- At every point region 0 reads the whole of `v20`. -/
theorem in0_2 (c : Dev nD) (t : Fin cfg0.N) : iblk0 V c 2 t = V c main_v20 :=
  funext fun i => congrArg (V c main_v20) (unit_emb_whole _ _ _ (by decide +revert) _ i fun _ => rfl)
/-- At every point region 0 reads the whole of `v32`. -/
theorem in0_3 (c : Dev nD) (t : Fin cfg0.N) : iblk0 V c 3 t = V c main_v32 :=
  funext fun i => congrArg (V c main_v32) (unit_emb_whole _ _ _ (by decide +revert) _ i fun _ => rfl)

/-- A point's block of the first output: the product of the two blocks read. -/
theorem pay0_1 (x : Vec Ideal S1000x15 .f32) (w : Vec Ideal S15x1024 .f32) : k0_pay1 x w = gemm x w :=
  matmul_eq_gemm none _ _
/-- A point's block of the second output: that product times the source projection. -/
theorem pay0_2 (x : Vec Ideal S1000x15 .f32) (w : Vec Ideal S15x1024 .f32) (a : Vec Ideal S1024x8 .f32) :
    k0_pay2 x w a = gemm (gemm x w) a := by
  unfold k0_pay2
  simp only [shapeCast_self, pay0_1]
  exact matmul_eq_gemm none _ _
/-- A point's block of the third output: that product times the destination projection. -/
theorem pay0_3 (x : Vec Ideal S1000x15 .f32) (w : Vec Ideal S15x1024 .f32) (a : Vec Ideal S1024x8 .f32) :
    k0_pay3 x w a = gemm (gemm x w) a := by
  unfold k0_pay3
  simp only [shapeCast_self, pay0_1]
  exact matmul_eq_gemm none _ _

/-- The block of region 0's window 4 at point `t` starts at row `1000 t`. -/
theorem off0_4 : ∀ t : Fin cfg0.N, win0_4.index t 0 * win0_4.size 0 = t.val * 1000 ∧ win0_4.index t 1 * win0_4.size 1 = 0 := by
  decide +kernel
/-- Window 4's whole-array function. -/
def whole0_4 (c : Dev nD) : S50000x1024.Idx → EReal :=
  gemm (M := 50000) (V c main_arg0) (V c main_arg3)
/-- At point `t` region 0's window 4 writes back that array's block. -/
theorem flushed0_4 (c : Dev nD) (t : Fin cfg0.N) :
    (dat0 V c).flushed 4 t = (win0_4.blk t).view.read (Elt Ideal) (whole0_4 V c) := by
  show (cfg0.win 4).cut (grid0.coords t) ((dat0 V c).after 4 t) = _
  rw [after0_4]
  unfold out0_4
  rw [View.canon_unit_zero hz, View.ld_unit_zero hz, View.ld_unit_zero hz, in0_0, in0_1, pay0_1, gemm_rows]
  exact funext fun i => (congrArg (whole0_4 V c) (unit_emb_rows _ _ _ (t.cast N_0) (off0_4 t).1 (off0_4 t).2 _ i fun _ => rfl)).symm
/-- Region 0 ends with window 4's array at that whole-array value. -/
theorem final0_4 (c : Dev nD) : (dat0 V c).arrAt 4 cfg0.N = whole0_4 V c :=
  (dat0 V c).arrAt_eq_of_cover 4 (whole0_4 V c) (fun t _ => flushed0_4 V c t)
    (cover_rows N_0 _ flush0_4 (fun t a => win0_4.index t a * win0_4.size a) _ _ _ (fun t => View.set_slice_whole main_v33_0 (win0_4.rect t)) off0_4 rfl rfl)
/-- The block of region 0's window 5 at point `t` starts at row `1000 t`. -/
theorem off0_5 : ∀ t : Fin cfg0.N, win0_5.index t 0 * win0_5.size 0 = t.val * 1000 ∧ win0_5.index t 1 * win0_5.size 1 = 0 := by
  decide +kernel
/-- Window 5's whole-array function. -/
def whole0_5 (c : Dev nD) : S50000x8.Idx → EReal :=
  gemm (gemm (M := 50000) (V c main_arg0) (V c main_arg3)) (V c main_v20)
/-- At point `t` region 0's window 5 writes back that array's block. -/
theorem flushed0_5 (c : Dev nD) (t : Fin cfg0.N) :
    (dat0 V c).flushed 5 t = (win0_5.blk t).view.read (Elt Ideal) (whole0_5 V c) := by
  show (cfg0.win 5).cut (grid0.coords t) ((dat0 V c).after 5 t) = _
  rw [after0_5]
  unfold out0_5
  rw [View.canon_unit_zero hz, View.ld_unit_zero hz, View.ld_unit_zero hz, View.ld_unit_zero hz, in0_0, in0_1, in0_2, pay0_2, gemm_rows, gemm_rows]
  exact funext fun i => (congrArg (whole0_5 V c) (unit_emb_rows _ _ _ (t.cast N_0) (off0_5 t).1 (off0_5 t).2 _ i fun _ => rfl)).symm
/-- Region 0 ends with window 5's array at that whole-array value. -/
theorem final0_5 (c : Dev nD) : (dat0 V c).arrAt 5 cfg0.N = whole0_5 V c :=
  (dat0 V c).arrAt_eq_of_cover 5 (whole0_5 V c) (fun t _ => flushed0_5 V c t)
    (cover_rows N_0 _ flush0_5 (fun t a => win0_5.index t a * win0_5.size a) _ _ _ (fun t => View.set_slice_whole main_v33_1 (win0_5.rect t)) off0_5 rfl rfl)
/-- The block of region 0's window 6 at point `t` starts at row `1000 t`. -/
theorem off0_6 : ∀ t : Fin cfg0.N, win0_6.index t 0 * win0_6.size 0 = t.val * 1000 ∧ win0_6.index t 1 * win0_6.size 1 = 0 := by
  decide +kernel
/-- Window 6's whole-array function. -/
def whole0_6 (c : Dev nD) : S50000x8.Idx → EReal :=
  gemm (gemm (M := 50000) (V c main_arg0) (V c main_arg3)) (V c main_v32)
/-- At point `t` region 0's window 6 writes back that array's block. -/
theorem flushed0_6 (c : Dev nD) (t : Fin cfg0.N) :
    (dat0 V c).flushed 6 t = (win0_6.blk t).view.read (Elt Ideal) (whole0_6 V c) := by
  show (cfg0.win 6).cut (grid0.coords t) ((dat0 V c).after 6 t) = _
  rw [after0_6]
  unfold out0_6
  rw [View.canon_unit_zero hz, View.ld_unit_zero hz, View.ld_unit_zero hz, View.ld_unit_zero hz, in0_0, in0_1, in0_3, pay0_3, gemm_rows, gemm_rows]
  exact funext fun i => (congrArg (whole0_6 V c) (unit_emb_rows _ _ _ (t.cast N_0) (off0_6 t).1 (off0_6 t).2 _ i fun _ => rfl)).symm
/-- Region 0 ends with window 6's array at that whole-array value. -/
theorem final0_6 (c : Dev nD) : (dat0 V c).arrAt 6 cfg0.N = whole0_6 V c :=
  (dat0 V c).arrAt_eq_of_cover 6 (whole0_6 V c) (fun t _ => flushed0_6 V c t)
    (cover_rows N_0 _ flush0_6 (fun t a => win0_6.index t a * win0_6.size a) _ _ _ (fun t => View.set_slice_whole main_v33_2 (win0_6.rect t)) off0_6 rfl rfl)

/-! ## Region 1: the first layer's normalization and activation, then the second layer's product -/

/-- The block of region 1's window 0 at point `t` starts at row `1000 t`. -/
theorem off1_0 : ∀ t : Fin cfg1.N, win1_0.index t 0 * win1_0.size 0 = t.val * 1000 ∧ win1_0.index t 1 * win1_0.size 1 = 0 := by
  decide +kernel
/-- At point `t` region 1 reads rows `1000 t` to `1000 t + 999` of `v73`. -/
theorem in1_0 (c : Dev nD) (t : Fin cfg1.N) : iblk1 V c 0 t = rowsOf (t.cast N_1) (V c main_v73) :=
  funext fun i => congrArg (V c main_v73) (unit_emb_rows _ _ _ (t.cast N_1) (off1_0 t).1 (off1_0 t).2 _ i fun _ => rfl)
/-- At every point region 1 reads the whole of `v76`. -/
theorem in1_1 (c : Dev nD) (t : Fin cfg1.N) : iblk1 V c 1 t = V c main_v76 :=
  funext fun i => congrArg (V c main_v76) (unit_emb_whole _ _ _ (by decide +revert) _ i fun _ => rfl)
/-- At every point region 1 reads the whole of `v81`. -/
theorem in1_2 (c : Dev nD) (t : Fin cfg1.N) : iblk1 V c 2 t = V c main_v81 :=
  funext fun i => congrArg (V c main_v81) (unit_emb_whole _ _ _ (by decide +revert) _ i fun _ => rfl)
/-- At every point region 1 reads the whole of `arg9`. -/
theorem in1_3 (c : Dev nD) (t : Fin cfg1.N) : iblk1 V c 3 t = V c main_arg9 :=
  funext fun i => congrArg (V c main_arg9) (unit_emb_whole _ _ _ (by decide +revert) _ i fun _ => rfl)

/-- A point's block of the output: the normalized and rectified block times the weights. -/
theorem pay1_1 (g : Vec Ideal S1000x1024 .f32) (sc sh : Vec Ideal S1x1024 .f32) (w : Vec Ideal S1024x128 .f32) :
    k1_pay1 g sc sh w = gemm (bnElu g sc sh) w := by
  unfold k1_pay1
  simp only [shapeCast_self]
  exact (matmul_eq_gemm none _ _).trans (congrArg (gemm · w) (bnElu_eq g sc sh _ _ rfl))

/-- The block of region 1's window 4 at point `t` starts at row `1000 t`. -/
theorem off1_4 : ∀ t : Fin cfg1.N, win1_4.index t 0 * win1_4.size 0 = t.val * 1000 ∧ win1_4.index t 1 * win1_4.size 1 = 0 := by
  decide +kernel
/-- Window 4's whole-array function. -/
def whole1_4 (c : Dev nD) : S50000x128.Idx → EReal :=
  gemm (M := 50000) (bnElu (V c main_v73) (V c main_v76) (V c main_v81)) (V c main_arg9)
/-- At point `t` region 1's window 4 writes back that array's block. -/
theorem flushed1_4 (c : Dev nD) (t : Fin cfg1.N) :
    (dat1 V c).flushed 4 t = (win1_4.blk t).view.read (Elt Ideal) (whole1_4 V c) := by
  show (cfg1.win 4).cut (grid1.coords t) ((dat1 V c).after 4 t) = _
  rw [after1_4]
  unfold out1_4
  rw [View.canon_unit_zero hz, View.ld_unit_zero hz, View.ld_unit_zero hz, View.ld_unit_zero hz, View.ld_unit_zero hz, in1_0, in1_1, in1_2, in1_3, pay1_1, bnElu_rows, gemm_rows]
  exact funext fun i => (congrArg (whole1_4 V c) (unit_emb_rows _ _ _ (t.cast N_1) (off1_4 t).1 (off1_4 t).2 _ i fun _ => rfl)).symm
/-- Region 1 ends with window 4's array at that whole-array value. -/
theorem final1_4 (c : Dev nD) : (dat1 V c).arrAt 4 cfg1.N = whole1_4 V c :=
  (dat1 V c).arrAt_eq_of_cover 4 (whole1_4 V c) (fun t _ => flushed1_4 V c t)
    (cover_rows N_1 _ flush1_4 (fun t a => win1_4.index t a * win1_4.size a) _ _ _ (fun t => View.set_slice_whole main_v82 (win1_4.rect t)) off1_4 rfl rfl)

/-! ## Region 2: the second layer's normalization and activation, and the third layer's own-row product -/

/-- The block of region 2's window 0 at point `t` starts at row `1000 t`. -/
theorem off2_0 : ∀ t : Fin cfg2.N, win2_0.index t 0 * win2_0.size 0 = t.val * 1000 ∧ win2_0.index t 1 * win2_0.size 1 = 0 := by
  decide +kernel
/-- At point `t` region 2 reads rows `1000 t` to `1000 t + 999` of `v119`. -/
theorem in2_0 (c : Dev nD) (t : Fin cfg2.N) : iblk2 V c 0 t = rowsOf (t.cast N_2) (V c main_v119) :=
  funext fun i => congrArg (V c main_v119) (unit_emb_rows _ _ _ (t.cast N_2) (off2_0 t).1 (off2_0 t).2 _ i fun _ => rfl)
/-- At every point region 2 reads the whole of `v122`. -/
theorem in2_1 (c : Dev nD) (t : Fin cfg2.N) : iblk2 V c 1 t = V c main_v122 :=
  funext fun i => congrArg (V c main_v122) (unit_emb_whole _ _ _ (by decide +revert) _ i fun _ => rfl)
/-- At every point region 2 reads the whole of `v127`. -/
theorem in2_2 (c : Dev nD) (t : Fin cfg2.N) : iblk2 V c 2 t = V c main_v127 :=
  funext fun i => congrArg (V c main_v127) (unit_emb_whole _ _ _ (by decide +revert) _ i fun _ => rfl)
/-- At every point region 2 reads the whole of `arg15`. -/
theorem in2_3 (c : Dev nD) (t : Fin cfg2.N) : iblk2 V c 3 t = V c main_arg15 :=
  funext fun i => congrArg (V c main_arg15) (unit_emb_whole _ _ _ (by decide +revert) _ i fun _ => rfl)

/-- A point's block of the first output: the block normalized and rectified. -/
theorem pay2_1 (g : Vec Ideal S1000x128 .f32) (sc sh : Vec Ideal S1x128 .f32) : k2_pay1 g sc sh = bnElu g sc sh := by
  unfold k2_pay1
  simp only [shapeCast_self]
  exact bnElu_eq g sc sh _ _ rfl
/-- A point's block of the second output: that block times the weights. -/
theorem pay2_2 (g : Vec Ideal S1000x128 .f32) (sc sh : Vec Ideal S1x128 .f32) (w : Vec Ideal S128x128 .f32) :
    k2_pay2 g sc sh w = gemm (bnElu g sc sh) w := by
  unfold k2_pay2
  rw [pay2_1]
  exact matmul_eq_gemm none _ _

/-- The block of region 2's window 4 at point `t` starts at row `1000 t`. -/
theorem off2_4 : ∀ t : Fin cfg2.N, win2_4.index t 0 * win2_4.size 0 = t.val * 1000 ∧ win2_4.index t 1 * win2_4.size 1 = 0 := by
  decide +kernel
/-- Window 4's whole-array function. -/
def whole2_4 (c : Dev nD) : S50000x128.Idx → EReal :=
  bnElu (M := 50000) (V c main_v119) (V c main_v122) (V c main_v127)
/-- At point `t` region 2's window 4 writes back that array's block. -/
theorem flushed2_4 (c : Dev nD) (t : Fin cfg2.N) :
    (dat2 V c).flushed 4 t = (win2_4.blk t).view.read (Elt Ideal) (whole2_4 V c) := by
  show (cfg2.win 4).cut (grid2.coords t) ((dat2 V c).after 4 t) = _
  rw [after2_4]
  unfold out2_4
  rw [View.canon_unit_zero hz, View.ld_unit_zero hz, View.ld_unit_zero hz, View.ld_unit_zero hz, in2_0, in2_1, in2_2, pay2_1, bnElu_rows]
  exact funext fun i => (congrArg (whole2_4 V c) (unit_emb_rows _ _ _ (t.cast N_2) (off2_4 t).1 (off2_4 t).2 _ i fun _ => rfl)).symm
/-- Region 2 ends with window 4's array at that whole-array value. -/
theorem final2_4 (c : Dev nD) : (dat2 V c).arrAt 4 cfg2.N = whole2_4 V c :=
  (dat2 V c).arrAt_eq_of_cover 4 (whole2_4 V c) (fun t _ => flushed2_4 V c t)
    (cover_rows N_2 _ flush2_4 (fun t a => win2_4.index t a * win2_4.size a) _ _ _ (fun t => View.set_slice_whole main_v128_0 (win2_4.rect t)) off2_4 rfl rfl)
/-- The block of region 2's window 5 at point `t` starts at row `1000 t`. -/
theorem off2_5 : ∀ t : Fin cfg2.N, win2_5.index t 0 * win2_5.size 0 = t.val * 1000 ∧ win2_5.index t 1 * win2_5.size 1 = 0 := by
  decide +kernel
/-- Window 5's whole-array function. -/
def whole2_5 (c : Dev nD) : S50000x128.Idx → EReal :=
  gemm (bnElu (M := 50000) (V c main_v119) (V c main_v122) (V c main_v127)) (V c main_arg15)
/-- At point `t` region 2's window 5 writes back that array's block. -/
theorem flushed2_5 (c : Dev nD) (t : Fin cfg2.N) :
    (dat2 V c).flushed 5 t = (win2_5.blk t).view.read (Elt Ideal) (whole2_5 V c) := by
  show (cfg2.win 5).cut (grid2.coords t) ((dat2 V c).after 5 t) = _
  rw [after2_5]
  unfold out2_5
  rw [View.canon_unit_zero hz, View.ld_unit_zero hz, View.ld_unit_zero hz, View.ld_unit_zero hz, View.ld_unit_zero hz, in2_0, in2_1, in2_2, in2_3, pay2_2, bnElu_rows, gemm_rows]
  exact funext fun i => (congrArg (whole2_5 V c) (unit_emb_rows _ _ _ (t.cast N_2) (off2_5 t).1 (off2_5 t).2 _ i fun _ => rfl)).symm
/-- Region 2 ends with window 5's array at that whole-array value. -/
theorem final2_5 (c : Dev nD) : (dat2 V c).arrAt 5 cfg2.N = whole2_5 V c :=
  (dat2 V c).arrAt_eq_of_cover 5 (whole2_5 V c) (fun t _ => flushed2_5 V c t)
    (cover_rows N_2 _ flush2_5 (fun t a => win2_5.index t a * win2_5.size a) _ _ _ (fun t => View.set_slice_whole main_v128_1 (win2_5.rect t)) off2_5 rfl rfl)

/-! ## Region 3: the third layer's product, normalization and activation, the fourth product and its projections -/

/-- The block of region 3's window 0 at point `t` starts at row `1000 t`. -/
theorem off3_0 : ∀ t : Fin cfg3.N, win3_0.index t 0 * win3_0.size 0 = t.val * 1000 ∧ win3_0.index t 1 * win3_0.size 1 = 0 := by
  decide +kernel
/-- At point `t` region 3 reads rows `1000 t` to `1000 t + 999` of `v147`. -/
theorem in3_0 (c : Dev nD) (t : Fin cfg3.N) : iblk3 V c 0 t = rowsOf (t.cast N_3) (V c main_v147) :=
  funext fun i => congrArg (V c main_v147) (unit_emb_rows _ _ _ (t.cast N_3) (off3_0 t).1 (off3_0 t).2 _ i fun _ => rfl)
/-- The block of region 3's window 1 at point `t` starts at row `1000 t`. -/
theorem off3_1 : ∀ t : Fin cfg3.N, win3_1.index t 0 * win3_1.size 0 = t.val * 1000 ∧ win3_1.index t 1 * win3_1.size 1 = 0 := by
  decide +kernel
/-- At point `t` region 3 reads rows `1000 t` to `1000 t + 999` of `v128_1`. -/
theorem in3_1 (c : Dev nD) (t : Fin cfg3.N) : iblk3 V c 1 t = rowsOf (t.cast N_3) (V c main_v128_1) :=
  funext fun i => congrArg (V c main_v128_1) (unit_emb_rows _ _ _ (t.cast N_3) (off3_1 t).1 (off3_1 t).2 _ i fun _ => rfl)
/-- At every point region 3 reads the whole of `arg13`. -/
theorem in3_2 (c : Dev nD) (t : Fin cfg3.N) : iblk3 V c 2 t = V c main_arg13 :=
  funext fun i => congrArg (V c main_arg13) (unit_emb_whole _ _ _ (by decide +revert) _ i fun _ => rfl)
/-- At every point region 3 reads the whole of `v150`. -/
theorem in3_3 (c : Dev nD) (t : Fin cfg3.N) : iblk3 V c 3 t = V c main_v150 :=
  funext fun i => congrArg (V c main_v150) (unit_emb_whole _ _ _ (by decide +revert) _ i fun _ => rfl)
/-- At every point region 3 reads the whole of `v157`. -/
theorem in3_4 (c : Dev nD) (t : Fin cfg3.N) : iblk3 V c 4 t = V c main_v157 :=
  funext fun i => congrArg (V c main_v157) (unit_emb_whole _ _ _ (by decide +revert) _ i fun _ => rfl)
/-- At every point region 3 reads the whole of `arg18`. -/
theorem in3_5 (c : Dev nD) (t : Fin cfg3.N) : iblk3 V c 5 t = V c main_arg18 :=
  funext fun i => congrArg (V c main_arg18) (unit_emb_whole _ _ _ (by decide +revert) _ i fun _ => rfl)
/-- At every point region 3 reads the whole of `v169`. -/
theorem in3_6 (c : Dev nD) (t : Fin cfg3.N) : iblk3 V c 6 t = V c main_v169 :=
  funext fun i => congrArg (V c main_v169) (unit_emb_whole _ _ _ (by decide +revert) _ i fun _ => rfl)
/-- At every point region 3 reads the whole of `v181`. -/
theorem in3_7 (c : Dev nD) (t : Fin cfg3.N) : iblk3 V c 7 t = V c main_v181 :=
  funext fun i => congrArg (V c main_v181) (unit_emb_whole _ _ _ (by decide +revert) _ i fun _ => rfl)

/-- A point's block of the first output: mean times weights plus the self product, normalized, rectified, times the weights. -/
theorem pay3_2 (agg : Vec Ideal S1000x128 .f32) (wl : Vec Ideal S128x128 .f32) (zr : Vec Ideal S1000x128 .f32) (sc sh : Vec Ideal S1x128 .f32)
    (w : Vec Ideal S128x512 .f32) : k3_pay2 agg wl zr sc sh w = gemm (bnElu (plus (gemm agg wl) zr) sc sh) w := by
  unfold k3_pay2
  simp only [shapeCast_self]
  refine (matmul_eq_gemm none _ _).trans (congrArg (gemm · w) ((bnElu_eq _ sc sh _ _ rfl).trans (congrArg (bnElu · sc sh) ?_)))
  exact congrArg (plus · zr) (matmul_eq_gemm none agg wl)
/-- A product as the region spells it. -/
theorem pay3_1 (h : Vec Ideal S1000x512 .f32) (a : Vec Ideal S512x4 .f32) : k3_pay1 h a = gemm h a := by
  unfold k3_pay1
  simp only [shapeCast_self]
  exact matmul_eq_gemm none _ _
/-- A point's block of a projection: the first output's block times the projection matrix. -/
theorem pay3_3 (agg : Vec Ideal S1000x128 .f32) (wl : Vec Ideal S128x128 .f32) (zr : Vec Ideal S1000x128 .f32) (sc sh : Vec Ideal S1x128 .f32)
    (w : Vec Ideal S128x512 .f32) (a : Vec Ideal S512x4 .f32) :
    k3_pay3 agg wl zr sc sh w a = gemm (gemm (bnElu (plus (gemm agg wl) zr) sc sh) w) a := by
  unfold k3_pay3
  simp only [shapeCast_self, pay3_2]
  exact matmul_eq_gemm none _ _

/-- The block of region 3's window 8 at point `t` starts at row `1000 t`. -/
theorem off3_8 : ∀ t : Fin cfg3.N, win3_8.index t 0 * win3_8.size 0 = t.val * 1000 ∧ win3_8.index t 1 * win3_8.size 1 = 0 := by
  decide +kernel
/-- Window 8's whole-array function. -/
def whole3_8 (c : Dev nD) : S50000x512.Idx → EReal :=
  gemm (bnElu (M := 50000) (plus (gemm (M := 50000) (V c main_v147) (V c main_arg13)) (V c main_v128_1)) (V c main_v150) (V c main_v157)) (V c main_arg18)
/-- At point `t` region 3's window 8 writes back that array's block. -/
theorem flushed3_8 (c : Dev nD) (t : Fin cfg3.N) :
    (dat3 V c).flushed 8 t = (win3_8.blk t).view.read (Elt Ideal) (whole3_8 V c) := by
  show (cfg3.win 8).cut (grid3.coords t) ((dat3 V c).after 8 t) = _
  rw [after3_8]
  unfold out3_8
  rw [View.canon_unit_zero hz, View.ld_unit_zero hz, View.ld_unit_zero hz, View.ld_unit_zero hz, View.ld_unit_zero hz, View.ld_unit_zero hz, View.ld_unit_zero hz, in3_0, in3_2, in3_1, in3_3, in3_4, in3_5, pay3_2, gemm_rows, plus_rows, bnElu_rows, gemm_rows]
  exact funext fun i => (congrArg (whole3_8 V c) (unit_emb_rows _ _ _ (t.cast N_3) (off3_8 t).1 (off3_8 t).2 _ i fun _ => rfl)).symm
/-- Region 3 ends with window 8's array at that whole-array value. -/
theorem final3_8 (c : Dev nD) : (dat3 V c).arrAt 8 cfg3.N = whole3_8 V c :=
  (dat3 V c).arrAt_eq_of_cover 8 (whole3_8 V c) (fun t _ => flushed3_8 V c t)
    (cover_rows N_3 _ flush3_8 (fun t a => win3_8.index t a * win3_8.size a) _ _ _ (fun t => View.set_slice_whole main_v182_0 (win3_8.rect t)) off3_8 rfl rfl)
/-- The block of region 3's window 9 at point `t` starts at row `1000 t`. -/
theorem off3_9 : ∀ t : Fin cfg3.N, win3_9.index t 0 * win3_9.size 0 = t.val * 1000 ∧ win3_9.index t 1 * win3_9.size 1 = 0 := by
  decide +kernel
/-- Window 9's whole-array function. -/
def whole3_9 (c : Dev nD) : S50000x4.Idx → EReal :=
  gemm (gemm (bnElu (M := 50000) (plus (gemm (M := 50000) (V c main_v147) (V c main_arg13)) (V c main_v128_1)) (V c main_v150) (V c main_v157)) (V c main_arg18)) (V c main_v169)
/-- At point `t` region 3's window 9 writes back that array's block. -/
theorem flushed3_9 (c : Dev nD) (t : Fin cfg3.N) :
    (dat3 V c).flushed 9 t = (win3_9.blk t).view.read (Elt Ideal) (whole3_9 V c) := by
  show (cfg3.win 9).cut (grid3.coords t) ((dat3 V c).after 9 t) = _
  rw [after3_9]
  unfold out3_9
  rw [View.canon_unit_zero hz, View.ld_unit_zero hz, View.ld_unit_zero hz, View.ld_unit_zero hz, View.ld_unit_zero hz, View.ld_unit_zero hz, View.ld_unit_zero hz, View.ld_unit_zero hz, in3_0, in3_2, in3_1, in3_3, in3_4, in3_5, in3_6, pay3_3, gemm_rows, plus_rows, bnElu_rows, gemm_rows, gemm_rows]
  exact funext fun i => (congrArg (whole3_9 V c) (unit_emb_rows _ _ _ (t.cast N_3) (off3_9 t).1 (off3_9 t).2 _ i fun _ => rfl)).symm
/-- Region 3 ends with window 9's array at that whole-array value. -/
theorem final3_9 (c : Dev nD) : (dat3 V c).arrAt 9 cfg3.N = whole3_9 V c :=
  (dat3 V c).arrAt_eq_of_cover 9 (whole3_9 V c) (fun t _ => flushed3_9 V c t)
    (cover_rows N_3 _ flush3_9 (fun t a => win3_9.index t a * win3_9.size a) _ _ _ (fun t => View.set_slice_whole main_v182_1 (win3_9.rect t)) off3_9 rfl rfl)
/-- The block of region 3's window 10 at point `t` starts at row `1000 t`. -/
theorem off3_10 : ∀ t : Fin cfg3.N, win3_10.index t 0 * win3_10.size 0 = t.val * 1000 ∧ win3_10.index t 1 * win3_10.size 1 = 0 := by
  decide +kernel
/-- Window 10's whole-array function. -/
def whole3_10 (c : Dev nD) : S50000x4.Idx → EReal :=
  gemm (gemm (bnElu (M := 50000) (plus (gemm (M := 50000) (V c main_v147) (V c main_arg13)) (V c main_v128_1)) (V c main_v150) (V c main_v157)) (V c main_arg18)) (V c main_v181)
/-- At point `t` region 3's window 10 writes back that array's block. -/
theorem flushed3_10 (c : Dev nD) (t : Fin cfg3.N) :
    (dat3 V c).flushed 10 t = (win3_10.blk t).view.read (Elt Ideal) (whole3_10 V c) := by
  show (cfg3.win 10).cut (grid3.coords t) ((dat3 V c).after 10 t) = _
  rw [after3_10]
  unfold out3_10
  rw [View.canon_unit_zero hz, View.ld_unit_zero hz, View.ld_unit_zero hz, View.ld_unit_zero hz, View.ld_unit_zero hz, View.ld_unit_zero hz, View.ld_unit_zero hz, View.ld_unit_zero hz, in3_0, in3_2, in3_1, in3_3, in3_4, in3_5, in3_7, pay3_2, pay3_1, gemm_rows, plus_rows, bnElu_rows, gemm_rows, gemm_rows]
  exact funext fun i => (congrArg (whole3_10 V c) (unit_emb_rows _ _ _ (t.cast N_3) (off3_10 t).1 (off3_10 t).2 _ i fun _ => rfl)).symm
/-- Region 3 ends with window 10's array at that whole-array value. -/
theorem final3_10 (c : Dev nD) : (dat3 V c).arrAt 10 cfg3.N = whole3_10 V c :=
  (dat3 V c).arrAt_eq_of_cover 10 (whole3_10 V c) (fun t _ => flushed3_10 V c t)
    (cover_rows N_3 _ flush3_10 (fun t a => win3_10.index t a * win3_10.size a) _ _ _ (fun t => View.set_slice_whole main_v182_2 (win3_10.rect t)) off3_10 rfl rfl)

/-! ## Region 4: the fourth layer's normalization and activation -/

/-- The block of region 4's window 0 at point `t` starts at row `1000 t`. -/
theorem off4_0 : ∀ t : Fin cfg4.N, win4_0.index t 0 * win4_0.size 0 = t.val * 1000 ∧ win4_0.index t 1 * win4_0.size 1 = 0 := by
  decide +kernel
/-- At point `t` region 4 reads rows `1000 t` to `1000 t + 999` of `v224`. -/
theorem in4_0 (c : Dev nD) (t : Fin cfg4.N) : iblk4 V c 0 t = rowsOf (t.cast N_4) (V c main_v224) :=
  funext fun i => congrArg (V c main_v224) (unit_emb_rows _ _ _ (t.cast N_4) (off4_0 t).1 (off4_0 t).2 _ i fun _ => rfl)
/-- At every point region 4 reads the whole of `v227`. -/
theorem in4_1 (c : Dev nD) (t : Fin cfg4.N) : iblk4 V c 1 t = V c main_v227 :=
  funext fun i => congrArg (V c main_v227) (unit_emb_whole _ _ _ (by decide +revert) _ i fun _ => rfl)
/-- At every point region 4 reads the whole of `v232`. -/
theorem in4_2 (c : Dev nD) (t : Fin cfg4.N) : iblk4 V c 2 t = V c main_v232 :=
  funext fun i => congrArg (V c main_v232) (unit_emb_whole _ _ _ (by decide +revert) _ i fun _ => rfl)

/-- A point's block of the output: the block normalized and rectified. -/
theorem pay4_1 (g : Vec Ideal S1000x128 .f32) (sc sh : Vec Ideal S1x128 .f32) : k4_pay1 g sc sh = bnElu g sc sh := by
  unfold k4_pay1
  simp only [shapeCast_self]
  exact bnElu_eq g sc sh _ _ rfl

/-- The block of region 4's window 3 at point `t` starts at row `1000 t`. -/
theorem off4_3 : ∀ t : Fin cfg4.N, win4_3.index t 0 * win4_3.size 0 = t.val * 1000 ∧ win4_3.index t 1 * win4_3.size 1 = 0 := by
  decide +kernel
/-- Window 3's whole-array function. -/
def whole4_3 (c : Dev nD) : S50000x128.Idx → EReal :=
  bnElu (M := 50000) (V c main_v224) (V c main_v227) (V c main_v232)
/-- At point `t` region 4's window 3 writes back that array's block. -/
theorem flushed4_3 (c : Dev nD) (t : Fin cfg4.N) :
    (dat4 V c).flushed 3 t = (win4_3.blk t).view.read (Elt Ideal) (whole4_3 V c) := by
  show (cfg4.win 3).cut (grid4.coords t) ((dat4 V c).after 3 t) = _
  rw [after4_3]
  unfold out4_3
  rw [View.canon_unit_zero hz, View.ld_unit_zero hz, View.ld_unit_zero hz, View.ld_unit_zero hz, in4_0, in4_1, in4_2, pay4_1, bnElu_rows]
  exact funext fun i => (congrArg (whole4_3 V c) (unit_emb_rows _ _ _ (t.cast N_4) (off4_3 t).1 (off4_3 t).2 _ i fun _ => rfl)).symm
/-- Region 4 ends with window 3's array at that whole-array value. -/
theorem final4_3 (c : Dev nD) : (dat4 V c).arrAt 3 cfg4.N = whole4_3 V c :=
  (dat4 V c).arrAt_eq_of_cover 3 (whole4_3 V c) (fun t _ => flushed4_3 V c t)
    (cover_rows N_4 _ flush4_3 (fun t a => win4_3.index t a * win4_3.size a) _ _ _ (fun t => View.set_slice_whole main_v233 (win4_3.rect t)) off4_3 rfl rfl)

/-! ## Region 5: one point, whole arrays -/

/-- At every point region 5 reads the whole of `v236`. -/
theorem in5_0 (c : Dev nD) (t : Fin cfg5.N) : iblk5 V c 0 t = V c main_v236 :=
  funext fun i => congrArg (V c main_v236) (unit_emb_whole _ _ _ (by decide +revert) _ i fun _ => rfl)
/-- At every point region 5 reads the whole of `v241`. -/
theorem in5_1 (c : Dev nD) (t : Fin cfg5.N) : iblk5 V c 1 t = V c main_v241 :=
  funext fun i => congrArg (V c main_v241) (unit_emb_whole _ _ _ (by decide +revert) _ i fun _ => rfl)
/-- At every point region 5 reads the whole of `arg24`. -/
theorem in5_2 (c : Dev nD) (t : Fin cfg5.N) : iblk5 V c 2 t = V c main_arg24 :=
  funext fun i => congrArg (V c main_arg24) (unit_emb_whole _ _ _ (by decide +revert) _ i fun _ => rfl)
/-- At every point region 5 reads the whole of `v242`. -/
theorem in5_3 (c : Dev nD) (t : Fin cfg5.N) : iblk5 V c 3 t = V c main_v242 :=
  funext fun i => congrArg (V c main_v242) (unit_emb_whole _ _ _ (by decide +revert) _ i fun _ => rfl)
/-- At every point region 5 reads the whole of `arg26`. -/
theorem in5_4 (c : Dev nD) (t : Fin cfg5.N) : iblk5 V c 4 t = V c main_arg26 :=
  funext fun i => congrArg (V c main_arg26) (unit_emb_whole _ _ _ (by decide +revert) _ i fun _ => rfl)
/-- At every point region 5 reads the whole of `v243`. -/
theorem in5_5 (c : Dev nD) (t : Fin cfg5.N) : iblk5 V c 5 t = V c main_v243 :=
  funext fun i => congrArg (V c main_v243) (unit_emb_whole _ _ _ (by decide +revert) _ i fun _ => rfl)
/-- Window 6's whole-array function: the body's own. -/
def whole5_6 (c : Dev nD) : S1024x128.Idx → EReal :=
  k5_pay1 (V c main_v236) (V c main_v241)
/-- At point `t` region 5's window 6 writes back that array's block. -/
theorem flushed5_6 (c : Dev nD) (t : Fin cfg5.N) :
    (dat5 V c).flushed 6 t = (win5_6.blk t).view.read (Elt Ideal) (whole5_6 V c) := by
  show (cfg5.win 6).cut (grid5.coords t) ((dat5 V c).after 6 t) = _
  rw [after5_6]
  unfold out5_6
  rw [View.canon_unit_zero hz, View.ld_unit_zero hz, View.ld_unit_zero hz, in5_0, in5_1]
  exact funext fun i => (congrArg (whole5_6 V c) (unit_emb_whole _ _ _ (by decide +revert) _ i fun _ => rfl)).symm
/-- Region 5 ends with window 6's array at that whole-array value. -/
theorem final5_6 (c : Dev nD) : (dat5 V c).arrAt 6 cfg5.N = whole5_6 V c :=
  (dat5 V c).arrAt_eq_of_cover 6 (whole5_6 V c) (fun t _ => flushed5_6 V c t)
    (cover_whole t5_0 _ (flush5_6 _) (fun a => win5_6.index t5_0 a * win5_6.size a) _ _ _ (View.set_slice_whole main_v244_0 (win5_6.rect t5_0)) (by decide) fun _ => rfl)
/-- Window 7's whole-array function: the body's own. -/
def whole5_7 (c : Dev nD) : S1024x64.Idx → EReal :=
  k5_pay2 (V c main_v236) (V c main_v241) (V c main_arg24) (V c main_v242) (V c main_arg26) (V c main_v243)
/-- At point `t` region 5's window 7 writes back that array's block. -/
theorem flushed5_7 (c : Dev nD) (t : Fin cfg5.N) :
    (dat5 V c).flushed 7 t = (win5_7.blk t).view.read (Elt Ideal) (whole5_7 V c) := by
  show (cfg5.win 7).cut (grid5.coords t) ((dat5 V c).after 7 t) = _
  rw [after5_7]
  unfold out5_7
  rw [View.canon_unit_zero hz, View.ld_unit_zero hz, View.ld_unit_zero hz, View.ld_unit_zero hz, View.ld_unit_zero hz, View.ld_unit_zero hz, View.ld_unit_zero hz, in5_0, in5_1, in5_2, in5_3, in5_4, in5_5]
  exact funext fun i => (congrArg (whole5_7 V c) (unit_emb_whole _ _ _ (by decide +revert) _ i fun _ => rfl)).symm
/-- Region 5 ends with window 7's array at that whole-array value. -/
theorem final5_7 (c : Dev nD) : (dat5 V c).arrAt 7 cfg5.N = whole5_7 V c :=
  (dat5 V c).arrAt_eq_of_cover 7 (whole5_7 V c) (fun t _ => flushed5_7 V c t)
    (cover_whole t5_0 _ (flush5_7 _) (fun a => win5_7.index t5_0 a * win5_7.size a) _ _ _ (View.set_slice_whole main_v244_1 (win5_7.rect t5_0)) (by decide) fun _ => rfl)

end Cert.KernelIdeal.Regions
-- ==== Proof.Arith.lean ====
/- The arithmetic over the extended reals in which the kernel and the reference differ: the exponential linear unit in
   its two spellings, the batch normalization folded into one scale and one shift, and a division by a positive
   denominator moved through a sum. -/
module

public import proofs.«01_k».proof.Proof.Spec
public import Idealize.ShloMosaic.Lib.StackMember

@[expose] public section

noncomputable section

namespace Cert.Arith

open Idealize.ShloMosaic Idealize.ShloMosaic.ValueIdx Cert.Spec

/-- The reference's spelling of the exponential linear unit is the kernel's. -/
theorem elu_ref (v : EReal) :
    Scalar.select (FloatOps.cmpf (F := Ideal) (φ := .f32) .ogt v (FloatOps.ofBits (F := Ideal) .f32 0x00000000#32)) v
      (FloatOps.mulf (F := Ideal) (φ := .f32) (FloatOps.ofBits (F := Ideal) .f32 0x3F800000#32)
        (FloatOps.hostUnary (F := Ideal) (φ := .f32) .expm1
          (Scalar.select (FloatOps.cmpf (F := Ideal) (φ := .f32) .ogt v (FloatOps.ofBits (F := Ideal) .f32 0x00000000#32))
            (FloatOps.ofBits (F := Ideal) .f32 0x00000000#32) v)))
      = elu v := by
  unfold elu
  rw [ofBits_zero, ofBits_one]
  by_cases h : (0 : EReal) < v
  · have e : FloatOps.cmpf (F := Ideal) (φ := .f32) .ogt v 0 = 1#1 := by
      show Ideal.cmp .ogt v 0 = 1#1
      simp [Ideal.cmp, h]
    have e' : Scalar.cmpf (F := Ideal) (φ := .f32) .ogt v 0 = 1#1 := e
    rw [e, e']
    rfl
  · have e : FloatOps.cmpf (F := Ideal) (φ := .f32) .ogt v 0 = 0#1 := by
      show Ideal.cmp .ogt v 0 = 0#1
      simp [Ideal.cmp, h]
    have e' : Scalar.cmpf (F := Ideal) (φ := .f32) .ogt v 0 = 0#1 := e
    rw [e, e']
    show (1 : EReal) * (Ideal.exp v - 1) = Ideal.exp (min v 0) - 1
    rw [one_mul, min_eq_left (not_lt.mp h)]

/-- The square root of one plus the normalization's small constant, as a word of the program. -/
def root : EReal := FloatOps.hostUnary (F := Ideal) (φ := .f32) .sqrt (FloatOps.ofBits (F := Ideal) .f32 0x3F800054#32)

/-- It is a nonzero real. -/
theorem root_real : ∃ r : ℝ, r ≠ 0 ∧ root = (r : EReal) := by
  have h : (FloatOps.ofBits (F := Ideal) .f32 0x3F800054#32 : EReal) = ((8388692 * (2 ^ 23)⁻¹ : ℝ) : EReal) := by
    simp [Ideal.ofBits_def, Ideal.ofBits, Ideal.ieee, -EReal.coe_mul]
  refine ⟨Real.sqrt (8388692 * (2 ^ 23)⁻¹), (Real.sqrt_pos.mpr (by norm_num)).ne', ?_⟩
  unfold root
  rw [h, Ideal.hostUnary_sqrt_def, Ideal.sqrt_coe, if_neg (by norm_num)]

/-- A product with a real factor distributes over a sum with a real summand. -/
theorem add_mul_real (g : EReal) (b c : ℝ) : (g + (b : EReal)) * (c : EReal) = g * c + b * c := by
  induction g with
  | bot =>
    rw [EReal.bot_add]
    rcases lt_trichotomy c 0 with h | h | h
    · rw [EReal.bot_mul_coe_of_neg h, ← EReal.coe_mul, EReal.top_add_coe]
    · subst h; simp
    · rw [EReal.bot_mul_coe_of_pos h, EReal.bot_add]
  | top =>
    rw [EReal.top_add_coe]
    rcases lt_trichotomy c 0 with h | h | h
    · rw [EReal.top_mul_coe_of_neg h, EReal.bot_add]
    · subst h; simp
    · rw [EReal.top_mul_coe_of_pos h, ← EReal.coe_mul, EReal.top_add_coe]
  | coe g => norm_cast; ring

/-- The normalization folded into a scale and a shift: for a real bias `b` and gain `γ`. -/
theorem bn_fold (g β : EReal) (b γ : ℝ) :
    g * ((γ : EReal) * Ideal.div 1 root) + ((b : EReal) * γ * Ideal.div 1 root + β) = (g + b) * Ideal.div γ root + β := by
  obtain ⟨r, hr, e⟩ := root_real
  rw [e, Ideal.div_coe hr, Ideal.div_coe hr, one_mul, mul_assoc (b : EReal), ← EReal.coe_mul, add_mul_real, add_assoc]

/-- A value below plus infinity in absolute value is real. -/
theorem real_of_abs_lt (x : EReal) (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have htop : (FloatOps.ofBits (F := Ideal) .f32 0x7F800000#32 : EReal) = ⊤ := by simp [Ideal.ofBits_def, Ideal.ofBits, Ideal.ieee]
  rw [htop] at h
  have h' : BitVec.ofBool (decide (max x (-x) < ⊤)) = 1#1 := h
  have hlt : max x (-x) < ⊤ := by
    by_contra hn
    rw [decide_eq_false hn] at h'
    exact absurd h' (by decide)
  rw [max_lt_iff] at hlt
  have hb : x ≠ ⊥ := fun hb => by simp [hb] at hlt
  exact ⟨x.toReal, (EReal.coe_toReal hlt.1.ne hb).symm⟩

/-- The word of the small constant added to a sum of exponentials is positive. -/
theorem eps_pos : (0 : EReal) < FloatOps.ofBits (F := Ideal) .f32 0x24E69595#32 := by
  have h : (FloatOps.ofBits (F := Ideal) .f32 0x24E69595#32 : EReal) = ((15111573 * (2 ^ 77)⁻¹ : ℝ) : EReal) := by
    simp [Ideal.ofBits_def, Ideal.ofBits, Ideal.ieee, -EReal.coe_mul]
  rw [h]
  exact_mod_cast (by norm_num : (0 : ℝ) < 15111573 * (2 ^ 77)⁻¹)

/-- The exponential is nonnegative. -/
theorem exp_nonneg (x : EReal) : 0 ≤ Ideal.exp x := by
  induction x with
  | bot => exact le_refl _
  | top => exact le_top
  | coe r =>
    rw [Ideal.exp_coe]
    exact_mod_cast (Real.exp_pos r).le

/-- A finite sum times a finite nonnegative factor is the sum of the products. -/
theorem sum_mul_nonneg {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- Dividing a sum by a positive denominator divides each second factor of its products. -/
theorem div_sum {ι : Type} (s : Finset ι) (f e : ι → EReal) (d : EReal) (hd : 0 < d) :
    Ideal.div (∑ i ∈ s, f i * e i) d = ∑ i ∈ s, f i * Ideal.div (e i) d := by
  have h0 : d ≠ 0 := hd.ne'
  have hi : 0 ≤ d⁻¹ := EReal.inv_nonneg_of_nonneg hd.le
  have ht : d⁻¹ ≠ ⊤ := (EReal.inv_lt_top d).ne
  simp only [Ideal.div, if_neg h0]
  rw [sum_mul_nonneg _ _ _ hi ht]
  exact Finset.sum_congr rfl fun i _ => mul_assoc _ _ _

/-- Multiplying by the reciprocal of a nonzero number divides. -/
theorem mul_div_one (x y : EReal) (hy : y ≠ 0) : x * Ideal.div 1 y = Ideal.div x y := by
  simp only [Ideal.div, if_neg hy, one_mul]

/-- A host matrix product of two matrices is `gemm`. -/
theorem dotGeneral_eq_gemm {M K N : Nat} (prec : Option ContractPrecision) (A : FVec Ideal ⟨2, ![M, K]⟩ .f32) (B : FVec Ideal ⟨2, ![K, N]⟩ .f32) :
    Host.dotGeneral (DotDims.plain M K N) prec A B = (gemm (M := M) (K := K) (N := N) A B : FVec Ideal ⟨2, ![M, N]⟩ .f32) := by
  funext i
  obtain ⟨r, c, rfl⟩ : ∃ r c, i = ix2 r c := ⟨_, _, eq_ix2 i⟩
  rw [StackMember.dotGeneral_plain_apply]
  rfl

end Cert.Arith
-- ==== Proof.Layers.lean ====
/- The layers of the network at any extents: host broadcasts read at an index, the batch normalization with its
   exponential linear unit, the projection of the heads onto their attention vectors, and the attention's weighted sum
   over the edges with the division inside or outside the sum. -/
module

public import proofs.«01_k».proof.Proof.Arith
public import Idealize.ShloMosaic.Lib.Routing.OpsPair

@[expose] public section

noncomputable section

namespace Cert.Layers

open Idealize.ShloMosaic Idealize.ShloMosaic.ValueIdx Cert.Spec Cert.Arith

variable {α : Type} {M N H C E P : Nat}

/-- The value of a coordinate below `n`, taken to zero where `n` is one. -/
theorem val_unit {n : Nat} (c : Fin n) : c.val = if n = 1 then 0 else c.val := by
  split
  · next h => have := c.isLt; omega
  · rfl

/-- A scalar broadcast, read. -/
theorem bc0 {t : Shape} (h : (⟨0, ![]⟩ : Shape).BroadcastsInDim t (![] : Fin 0 → Fin t.rank)) (x : (⟨0, ![]⟩ : Shape).Idx → α) (j : t.Idx) :
    broadcastInDim t ![] h x j = x ix0 :=
  broadcastInDim_apply _ h x j ix0 fun a => a.elim0

/-- A vector as one row, read. -/
theorem bcRow1 (h : (⟨1, ![N]⟩ : Shape).BroadcastsInDim ⟨2, ![1, N]⟩ ![1]) (x : (⟨1, ![N]⟩ : Shape).Idx → α) (j : (⟨2, ![1, N]⟩ : Shape).Idx) :
    broadcastInDim ⟨2, ![1, N]⟩ ![1] h x j = x (ix1 (j 1)) :=
  broadcastInDim_apply _ h x j _ fun a => match a with
    | ⟨0, _⟩ => val_unit (n := N) (j 1)

/-- One row repeated, read. -/
theorem bcRow (h : (⟨2, ![1, N]⟩ : Shape).BroadcastsInDim ⟨2, ![M, N]⟩ ![0, 1]) (x : (⟨2, ![1, N]⟩ : Shape).Idx → α) (j : (⟨2, ![M, N]⟩ : Shape).Idx) :
    broadcastInDim ⟨2, ![M, N]⟩ ![0, 1] h x j = x (ix2 0 (j 1)) :=
  broadcastInDim_apply _ h x j _ fun a => match a with
    | ⟨0, _⟩ => rfl
    | ⟨1, _⟩ => val_unit (n := N) (j 1)

/-- A vector as one column, read. -/
theorem bcCol1 (h : (⟨1, ![M]⟩ : Shape).BroadcastsInDim ⟨2, ![M, 1]⟩ ![0]) (x : (⟨1, ![M]⟩ : Shape).Idx → α) (j : (⟨2, ![M, 1]⟩ : Shape).Idx) :
    broadcastInDim ⟨2, ![M, 1]⟩ ![0] h x j = x (ix1 (j 0)) :=
  broadcastInDim_apply _ h x j _ fun a => match a with
    | ⟨0, _⟩ => val_unit (n := M) (j 0)

/-- A column repeated, read. -/
theorem bcCol (h : (⟨2, ![M, 1]⟩ : Shape).BroadcastsInDim ⟨2, ![M, N]⟩ ![0, 1]) (x : (⟨2, ![M, 1]⟩ : Shape).Idx → α) (j : (⟨2, ![M, N]⟩ : Shape).Idx) :
    broadcastInDim ⟨2, ![M, N]⟩ ![0, 1] h x j = x (ix2 (j 0) 0) :=
  broadcastInDim_apply _ h x j _ fun a => match a with
    | ⟨0, _⟩ => val_unit (n := M) (j 0)
    | ⟨1, _⟩ => rfl

/-- A matrix with a trailing unit axis added, read. -/
theorem bcTail1 (h : (⟨2, ![M, H]⟩ : Shape).BroadcastsInDim ⟨3, ![M, H, 1]⟩ ![0, 1]) (x : (⟨2, ![M, H]⟩ : Shape).Idx → α) (j : (⟨3, ![M, H, 1]⟩ : Shape).Idx) :
    broadcastInDim ⟨3, ![M, H, 1]⟩ ![0, 1] h x j = x (ix2 (j 0) (j 1)) :=
  broadcastInDim_apply _ h x j _ fun a => match a with
    | ⟨0, _⟩ => val_unit (n := M) (j 0)
    | ⟨1, _⟩ => val_unit (n := H) (j 1)

/-- A trailing unit axis repeated, read. -/
theorem bcTail (h : (⟨3, ![M, H, 1]⟩ : Shape).BroadcastsInDim ⟨3, ![M, H, C]⟩ ![0, 1, 2]) (x : (⟨3, ![M, H, 1]⟩ : Shape).Idx → α) (j : (⟨3, ![M, H, C]⟩ : Shape).Idx) :
    broadcastInDim ⟨3, ![M, H, C]⟩ ![0, 1, 2] h x j = x (ix3 (j 0) (j 1) 0) :=
  broadcastInDim_apply _ h x j _ fun a => match a with
    | ⟨0, _⟩ => val_unit (n := M) (j 0)
    | ⟨1, _⟩ => val_unit (n := H) (j 1)
    | ⟨2, _⟩ => rfl

/-- A matrix with a middle unit axis added, read. -/
theorem bcMid1 (h : (⟨2, ![M, N]⟩ : Shape).BroadcastsInDim ⟨3, ![M, 1, N]⟩ ![0, 2]) (x : (⟨2, ![M, N]⟩ : Shape).Idx → α) (j : (⟨3, ![M, 1, N]⟩ : Shape).Idx) :
    broadcastInDim ⟨3, ![M, 1, N]⟩ ![0, 2] h x j = x (ix2 (j 0) (j 2)) :=
  broadcastInDim_apply _ h x j _ fun a => match a with
    | ⟨0, _⟩ => val_unit (n := M) (j 0)
    | ⟨1, _⟩ => val_unit (n := N) (j 2)

/-- A middle unit axis repeated, read. -/
theorem bcMid (h : (⟨3, ![M, 1, N]⟩ : Shape).BroadcastsInDim ⟨3, ![M, C, N]⟩ ![0, 1, 2]) (x : (⟨3, ![M, 1, N]⟩ : Shape).Idx → α) (j : (⟨3, ![M, C, N]⟩ : Shape).Idx) :
    broadcastInDim ⟨3, ![M, C, N]⟩ ![0, 1, 2] h x j = x (ix3 (j 0) 0 (j 2)) :=
  broadcastInDim_apply _ h x j _ fun a => match a with
    | ⟨0, _⟩ => val_unit (n := M) (j 0)
    | ⟨1, _⟩ => rfl
    | ⟨2, _⟩ => val_unit (n := N) (j 2)

/-- A matrix with a leading unit axis added, read. -/
theorem bcHead1 (h : (⟨2, ![H, C]⟩ : Shape).BroadcastsInDim ⟨3, ![1, H, C]⟩ ![1, 2]) (x : (⟨2, ![H, C]⟩ : Shape).Idx → α) (j : (⟨3, ![1, H, C]⟩ : Shape).Idx) :
    broadcastInDim ⟨3, ![1, H, C]⟩ ![1, 2] h x j = x (ix2 (j 1) (j 2)) :=
  broadcastInDim_apply _ h x j _ fun a => match a with
    | ⟨0, _⟩ => val_unit (n := H) (j 1)
    | ⟨1, _⟩ => val_unit (n := C) (j 2)

/-- A leading unit axis repeated, read. -/
theorem bcHead (h : (⟨3, ![1, H, C]⟩ : Shape).BroadcastsInDim ⟨3, ![M, H, C]⟩ ![0, 1, 2]) (x : (⟨3, ![1, H, C]⟩ : Shape).Idx → α) (j : (⟨3, ![M, H, C]⟩ : Shape).Idx) :
    broadcastInDim ⟨3, ![M, H, C]⟩ ![0, 1, 2] h x j = x (ix3 0 (j 1) (j 2)) :=
  broadcastInDim_apply _ h x j _ fun a => match a with
    | ⟨0, _⟩ => rfl
    | ⟨1, _⟩ => val_unit (n := H) (j 1)
    | ⟨2, _⟩ => val_unit (n := C) (j 2)

/-! ## Batch normalization and the exponential linear unit -/

section Norm

variable (h0 : (⟨0, ![]⟩ : Shape).BroadcastsInDim ⟨1, ![N]⟩ (![] : Fin 0 → Fin 1))
  (h00 : (⟨0, ![]⟩ : Shape).BroadcastsInDim ⟨2, ![M, N]⟩ (![] : Fin 0 → Fin 2))
  (h1 : (⟨1, ![N]⟩ : Shape).BroadcastsInDim ⟨2, ![1, N]⟩ ![1]) (h2 : (⟨2, ![1, N]⟩ : Shape).BroadcastsInDim ⟨2, ![M, N]⟩ ![0, 1])

/-- The reference's normalization: add the bias, multiply by the gain over the root, add the offset. -/
def normRef (g : FVec Ideal ⟨2, ![M, N]⟩ .f32) (b γ β : FVec Ideal ⟨1, ![N]⟩ .f32) : FVec Ideal ⟨2, ![M, N]⟩ .f32 :=
  addf (mulf (addf g (broadcastInDim ⟨2, ![M, N]⟩ ![0, 1] h2 (broadcastInDim ⟨2, ![1, N]⟩ ![1] h1 b)))
      (broadcastInDim ⟨2, ![M, N]⟩ ![0, 1] h2 (broadcastInDim ⟨2, ![1, N]⟩ ![1] h1
        (Host.divf γ (broadcastInDim ⟨1, ![N]⟩ ![] h0 (id (Host.sqrt (constant (F := Ideal) ⟨0, ![]⟩ .f32 0x3F800054#32))))))))
    (broadcastInDim ⟨2, ![M, N]⟩ ![0, 1] h2 (broadcastInDim ⟨2, ![1, N]⟩ ![1] h1 β))

/-- The reference's exponential linear unit. -/
def eluRef (y : FVec Ideal ⟨2, ![M, N]⟩ .f32) : FVec Ideal ⟨2, ![M, N]⟩ .f32 :=
  select (cmpf .ogt y (broadcastInDim ⟨2, ![M, N]⟩ ![] h00 (constant (F := Ideal) ⟨0, ![]⟩ .f32 0x00000000#32))) y
    (mulf (broadcastInDim ⟨2, ![M, N]⟩ ![] h00 (constant (F := Ideal) ⟨0, ![]⟩ .f32 0x3F800000#32))
      (Host.expm1 (select (cmpf .ogt y (broadcastInDim ⟨2, ![M, N]⟩ ![] h00 (constant (F := Ideal) ⟨0, ![]⟩ .f32 0x00000000#32)))
        (broadcastInDim ⟨2, ![M, N]⟩ ![] h00 (id (constant (F := Ideal) ⟨0, ![]⟩ .f32 0x00000000#32))) y)))

/-- The reciprocal of the root, as the kernel computes it. -/
def invRoot : FVec Ideal ⟨0, ![]⟩ .f32 :=
  Host.divf (constant (F := Ideal) ⟨0, ![]⟩ .f32 0x3F800000#32) (Host.sqrt (constant (F := Ideal) ⟨0, ![]⟩ .f32 0x3F800054#32))

/-- The kernel's scale row. -/
def scaleRow (γ : FVec Ideal ⟨1, ![N]⟩ .f32) : FVec Ideal ⟨2, ![1, N]⟩ .f32 :=
  broadcastInDim ⟨2, ![1, N]⟩ ![1] h1 (mulf γ (broadcastInDim ⟨1, ![N]⟩ ![] h0 invRoot))

/-- The kernel's shift row. -/
def shiftRow (b γ β : FVec Ideal ⟨1, ![N]⟩ .f32) : FVec Ideal ⟨2, ![1, N]⟩ .f32 :=
  broadcastInDim ⟨2, ![1, N]⟩ ![1] h1 (addf (mulf (mulf b γ) (broadcastInDim ⟨1, ![N]⟩ ![] h0 invRoot)) β)

/-- The kernel's constant is one over the root. -/
theorem invRoot_apply : invRoot ix0 = Ideal.div 1 root := by
  show Ideal.div (FloatOps.ofBits (F := Ideal) .f32 0x3F800000#32) root = _
  rw [ofBits_one]

/-- The reference's normalization at an index. -/
theorem normRef_apply (g : FVec Ideal ⟨2, ![M, N]⟩ .f32) (b γ β : FVec Ideal ⟨1, ![N]⟩ .f32) (i : (⟨2, ![M, N]⟩ : Shape).Idx) :
    normRef h0 h1 h2 g b γ β i = ((g i + b (ix1 (i 1))) * Ideal.div (γ (ix1 (i 1))) root + β (ix1 (i 1)) : EReal) := by
  unfold normRef
  show ((g i + broadcastInDim _ _ h2 _ i) * broadcastInDim _ _ h2 _ i + broadcastInDim _ _ h2 _ i : EReal) = _
  rw [bcRow, bcRow, bcRow, bcRow1, bcRow1, bcRow1]
  show ((g i + b (ix1 (i 1))) * Ideal.div (γ (ix1 (i 1))) (broadcastInDim _ _ h0 _ (ix1 (i 1))) + β (ix1 (i 1)) : EReal) = _
  rw [bc0]
  rfl

/-- The reference's rectifier is `elu` at each index. -/
theorem eluRef_apply (y : FVec Ideal ⟨2, ![M, N]⟩ .f32) (i : (⟨2, ![M, N]⟩ : Shape).Idx) : eluRef h00 y i = elu (y i) := by
  rw [← elu_ref (y i)]
  unfold eluRef
  show Scalar.select (FloatOps.cmpf (F := Ideal) (φ := .f32) .ogt (y i) (broadcastInDim _ _ h00 _ i)) (y i)
    (FloatOps.mulf (F := Ideal) (φ := .f32) (broadcastInDim _ _ h00 _ i) (FloatOps.hostUnary (F := Ideal) (φ := .f32) .expm1
      (Scalar.select (FloatOps.cmpf (F := Ideal) (φ := .f32) .ogt (y i) (broadcastInDim _ _ h00 _ i)) (broadcastInDim _ _ h00 _ i) (y i)))) = _
  rw [bc0, bc0, bc0]
  rfl

/-- The kernel's scale, shift and exponential linear unit give the reference's normalization and unit, where the bias
    and the gain are real. -/
theorem bnElu_eq_ref (g : FVec Ideal ⟨2, ![M, N]⟩ .f32) (b γ β : FVec Ideal ⟨1, ![N]⟩ .f32)
    (hb : ∀ j, ∃ r : ℝ, b j = (r : EReal)) (hγ : ∀ j, ∃ r : ℝ, γ j = (r : EReal)) :
    bnElu g (scaleRow h0 h1 γ) (shiftRow h0 h1 b γ β) = eluRef h00 (normRef h0 h1 h2 g b γ β) := by
  funext i
  rw [eluRef_apply, normRef_apply]
  unfold bnElu scaleRow shiftRow
  rw [bcRow1, bcRow1]
  obtain ⟨rb, eb⟩ := hb (ix1 (i 1))
  obtain ⟨rγ, eγ⟩ := hγ (ix1 (i 1))
  show elu (g i * (γ (ix1 (i 1)) * broadcastInDim _ _ h0 invRoot (ix1 (i 1)))
    + (b (ix1 (i 1)) * γ (ix1 (i 1)) * broadcastInDim _ _ h0 invRoot (ix1 (i 1)) + β (ix1 (i 1)))) = _
  rw [bc0, invRoot_apply, eb, eγ, bn_fold]

end Norm

/-! ## The heads' projections -/

/-- The identity matrix as the kernel spells it. -/
def eyeMat (h00 : (⟨0, ![]⟩ : Shape).BroadcastsInDim ⟨2, ![H, H]⟩ (![] : Fin 0 → Fin 2)) : FVec Ideal ⟨2, ![H, H]⟩ .f32 :=
  uitofp .f32 (cmpi .eq (addi (iotaInDim ⟨2, ![H, H]⟩ 32 0) (broadcastInDim ⟨2, ![H, H]⟩ ![] h00 (constantI ⟨0, ![]⟩ 32 0#32))) (iotaInDim ⟨2, ![H, H]⟩ 32 1))

/-- The kernel's identity matrix holds one on the diagonal and zero off it. -/
theorem eyeMat_apply (hH : H ≤ 2 ^ 32) (h00 : (⟨0, ![]⟩ : Shape).BroadcastsInDim ⟨2, ![H, H]⟩ (![] : Fin 0 → Fin 2)) (a b : Fin H) :
    eyeMat h00 (ix2 a b) = ((if a = b then 1 else 0 : EReal)) := by
  unfold eyeMat
  show (((IntOp.cmpi .eq (BitVec.ofNat 32 a.val + broadcastInDim _ _ h00 _ (ix2 a b)) (BitVec.ofNat 32 b.val)).toNat : ℝ) : EReal) = _
  rw [bc0]
  show (((BitVec.ofBool (decide (BitVec.ofNat 32 a.val + 0#32 = BitVec.ofNat 32 b.val))).toNat : ℝ) : EReal) = _
  have e : (BitVec.ofNat 32 a.val + 0#32 = BitVec.ofNat 32 b.val) ↔ a = b := by
    rw [BitVec.add_zero]
    constructor
    · intro h
      have := congrArg BitVec.toNat h
      simp only [BitVec.toNat_ofNat] at this
      rw [Nat.mod_eq_of_lt (by have := a.isLt; omega), Nat.mod_eq_of_lt (by have := b.isLt; omega)] at this
      exact Fin.ext this
    · intro h; rw [h]
  by_cases hab : a = b
  · rw [if_pos hab, decide_eq_true (e.2 hab)]; simp
  · rw [if_neg hab, decide_eq_false (fun h => hab (e.1 h))]; simp

/-- A sum over the columns, grouped by head, of which one head's are not zero. -/
theorem sum_head (hP : H * C = P) (f : Fin P → EReal) (g : Fin C → EReal) (h : Fin H)
    (hf : ∀ (a : Fin H) (c : Fin C) (k : Fin P), k.val = a.val * C + c.val → f k = if a = h then g c else 0) : ∑ k, f k = ∑ c, g c := by
  subst hP
  rw [← Equiv.sum_comp finProdFinEquiv, Fintype.sum_prod_type, Finset.sum_eq_single h]
  · refine Finset.sum_congr rfl fun c _ => ?_
    rw [hf h c _ (by rw [finProdFinEquiv_apply_val]; show c.val + C * h.val = _; rw [Nat.mul_comm, Nat.add_comm]), if_pos rfl]
  · intro a _ ha
    refine Finset.sum_eq_zero fun c _ => ?_
    rw [hf a c _ (by rw [finProdFinEquiv_apply_val]; show c.val + C * a.val = _; rw [Nat.mul_comm, Nat.add_comm]), if_neg ha]
  · exact fun h => absurd (Finset.mem_univ _) h

/-- The kernel's projection matrix: head `a`'s attention vector in the rows of head `a`, column `a`. -/
def headMat (h00 : (⟨0, ![]⟩ : Shape).BroadcastsInDim ⟨2, ![H, H]⟩ (![] : Fin 0 → Fin 2))
    (t1 : (⟨2, ![H, C]⟩ : Shape).BroadcastsInDim ⟨3, ![H, C, 1]⟩ ![0, 1]) (t2 : (⟨3, ![H, C, 1]⟩ : Shape).BroadcastsInDim ⟨3, ![H, C, H]⟩ ![0, 1, 2])
    (m1 : (⟨2, ![H, H]⟩ : Shape).BroadcastsInDim ⟨3, ![H, 1, H]⟩ ![0, 2]) (m2 : (⟨3, ![H, 1, H]⟩ : Shape).BroadcastsInDim ⟨3, ![H, C, H]⟩ ![0, 1, 2])
    (hc : (⟨3, ![H, C, H]⟩ : Shape).ShapeCasts ⟨2, ![P, H]⟩) (a : FVec Ideal ⟨2, ![H, C]⟩ .f32) : FVec Ideal ⟨2, ![P, H]⟩ .f32 :=
  shapeCast _ (mulf (broadcastInDim ⟨3, ![H, C, H]⟩ ![0, 1, 2] t2 (broadcastInDim ⟨3, ![H, C, 1]⟩ ![0, 1] t1 a))
    (broadcastInDim ⟨3, ![H, C, H]⟩ ![0, 1, 2] m2 (broadcastInDim ⟨3, ![H, 1, H]⟩ ![0, 2] m1 (eyeMat h00)))) hc

/-- The projection matrix at an entry: the head's vector in its own column, zero in the others. -/
theorem headMat_apply (hH : H ≤ 2 ^ 32) (h00 : (⟨0, ![]⟩ : Shape).BroadcastsInDim ⟨2, ![H, H]⟩ (![] : Fin 0 → Fin 2))
    (t1 : (⟨2, ![H, C]⟩ : Shape).BroadcastsInDim ⟨3, ![H, C, 1]⟩ ![0, 1]) (t2 : (⟨3, ![H, C, 1]⟩ : Shape).BroadcastsInDim ⟨3, ![H, C, H]⟩ ![0, 1, 2])
    (m1 : (⟨2, ![H, H]⟩ : Shape).BroadcastsInDim ⟨3, ![H, 1, H]⟩ ![0, 2]) (m2 : (⟨3, ![H, 1, H]⟩ : Shape).BroadcastsInDim ⟨3, ![H, C, H]⟩ ![0, 1, 2])
    (hc : (⟨3, ![H, C, H]⟩ : Shape).ShapeCasts ⟨2, ![P, H]⟩) (a : FVec Ideal ⟨2, ![H, C]⟩ .f32) (g : Fin H) (c : Fin C) (k : Fin P) (h : Fin H)
    (hk : k.val = g.val * C + c.val) :
    headMat h00 t1 t2 m1 m2 hc a (ix2 k h) = ((a (ix2 g c) * if g = h then 1 else 0 : EReal)) := by
  unfold headMat
  rw [shapeCast_apply _ hc (ix2 k h) (ix3 g c h) (by
    rw [Shape.rowMajor_val_three, Shape.rowMajor_val_two]
    show (g.val * C + c.val) * H + h.val = k.val * H + h.val
    rw [hk])]
  show (broadcastInDim _ _ t2 _ (ix3 g c h) * broadcastInDim _ _ m2 _ (ix3 g c h) : EReal) = _
  rw [bcTail, bcTail1, bcMid, bcMid1]
  exact congrArg (fun z => a (ix2 g c) * z) (eyeMat_apply hH h00 g h)

/-- The features times the projection matrix: at head `h` the sum over that head's channels. -/
theorem gemm_headMat (hP : H * C = P) (hH : H ≤ 2 ^ 32) (h00 : (⟨0, ![]⟩ : Shape).BroadcastsInDim ⟨2, ![H, H]⟩ (![] : Fin 0 → Fin 2))
    (t1 : (⟨2, ![H, C]⟩ : Shape).BroadcastsInDim ⟨3, ![H, C, 1]⟩ ![0, 1]) (t2 : (⟨3, ![H, C, 1]⟩ : Shape).BroadcastsInDim ⟨3, ![H, C, H]⟩ ![0, 1, 2])
    (m1 : (⟨2, ![H, H]⟩ : Shape).BroadcastsInDim ⟨3, ![H, 1, H]⟩ ![0, 2]) (m2 : (⟨3, ![H, 1, H]⟩ : Shape).BroadcastsInDim ⟨3, ![H, C, H]⟩ ![0, 1, 2])
    (hc : (⟨3, ![H, C, H]⟩ : Shape).ShapeCasts ⟨2, ![P, H]⟩) (a : FVec Ideal ⟨2, ![H, C]⟩ .f32)
    (A : FVec Ideal ⟨2, ![M, P]⟩ .f32) (hA : (⟨2, ![M, P]⟩ : Shape).ShapeCasts ⟨3, ![M, H, C]⟩)
    (b1 : (⟨2, ![H, C]⟩ : Shape).BroadcastsInDim ⟨3, ![1, H, C]⟩ ![1, 2]) (b2 : (⟨3, ![1, H, C]⟩ : Shape).BroadcastsInDim ⟨3, ![M, H, C]⟩ ![0, 1, 2])
    (i : (⟨2, ![M, H]⟩ : Shape).Idx) :
    gemm A (headMat h00 t1 t2 m1 m2 hc a) i
      = ∑ c : Fin C, (mulf (F := Ideal) (shapeCast _ A hA) (broadcastInDim ⟨3, ![M, H, C]⟩ ![0, 1, 2] b2 (broadcastInDim ⟨3, ![1, H, C]⟩ ![1, 2] b1 a))
          (ix3 (i 0) (i 1) c) : EReal) := by
  unfold gemm
  refine sum_head hP _ _ (i 1) fun g c k hk => ?_
  rw [headMat_apply hH h00 t1 t2 m1 m2 hc a g c k (i 1) hk]
  by_cases hg : g = i 1
  · rw [if_pos hg, if_pos hg, mul_one, ← hg]
    show _ = (shapeCast _ A hA (ix3 (i 0) g c) * broadcastInDim _ _ b2 _ (ix3 (i 0) g c) : EReal)
    rw [bcHead, bcHead1, shapeCast_apply A hA (ix3 (i 0) g c) (ix2 (i 0) k) (by
      rw [Shape.rowMajor_val_three, Shape.rowMajor_val_two]
      show (i 0).val * P + k.val = ((i 0).val * H + g.val) * C + c.val
      rw [hk, ← hP]; ring)]
    rfl
  · rw [if_neg hg, if_neg hg, mul_zero, mul_zero]

/-! ## The attention's sum over the edges -/

/-- The dimension numbers of a sum of [E, H, C] updates into the rows of an [N, H, C] array. -/
abbrev scat3 (w : ScatterDims.WF ⟨3, ![N, H, C]⟩ ⟨2, ![E, 1]⟩ ⟨3, ![E, H, C]⟩ [1, 2] [0] [0] 1) :
    ScatterDims ⟨3, ![N, H, C]⟩ ⟨2, ![E, 1]⟩ ⟨3, ![E, H, C]⟩ := ⟨[1, 2], [0], [0], 1, w⟩

/-- The dimension numbers of the rows of an [N, H] array taken at E indices. -/
abbrev gath2 (w : GatherDims.WF ⟨2, ![N, H]⟩ ⟨2, ![E, 1]⟩ ⟨2, ![E, H]⟩ [1] [0] [] [0] [] 1 ![1, H]) :
    GatherDims ⟨2, ![N, H]⟩ ⟨2, ![E, 1]⟩ ⟨2, ![E, H]⟩ := ⟨[1], [0], [], [], [0], 1, ![1, H], w⟩

/-- An update lands on the row its index word names, at its own head and channel. -/
theorem scat3_lands (w : ScatterDims.WF ⟨3, ![N, H, C]⟩ ⟨2, ![E, 1]⟩ ⟨3, ![E, H, C]⟩ [1, 2] [0] [0] 1) (idx : IVec ⟨2, ![E, 1]⟩ 32)
    (j : (⟨3, ![E, H, C]⟩ : Shape).Idx) (i : (⟨3, ![N, H, C]⟩ : Shape).Idx) (h : (scat3 w).resultIdx? j idx = some i) :
    (idx (ix2 (j 0) 0)).toInt = (i 0).val ∧ (j 1).val = (i 1).val := by
  rw [Routing.resultIdx?_eq_some] at h
  have h0 := h 0
  have h1 := h 1
  have k0 : (0 : Fin 3) ∉ (scat3 w).sKept := by simp [Shape.kept]
  have k1 : (1 : Fin 3) ∈ (scat3 w).sKept := by simp [Shape.kept]
  have s0 : (scat3 w).start j idx 0 = (idx (ix2 (j 0) 0)).toInt := by
    unfold ScatterDims.start
    rw [dif_pos (List.mem_singleton.2 rfl)]
    refine congrArg (fun q => (idx q).toInt) (funext fun b => Fin.ext ?_)
    match b with
    | ⟨0, _⟩ => rfl
    | ⟨1, _⟩ => rfl
  have s1 : (scat3 w).start j idx 1 = 0 := by
    unfold ScatterDims.start
    rw [dif_neg (by simp)]
  have w0 : (scat3 w).window j 0 = 0 := by
    unfold ScatterDims.window
    rw [dif_neg k0]
  have w1 : (scat3 w).window j 1 = (j 1).val := by
    unfold ScatterDims.window
    rw [dif_pos k1]
    rfl
  rw [s0, w0] at h0
  rw [s1, w1] at h1
  exact ⟨by simpa using h0, by exact_mod_cast (zero_add ((j 1).val : Int) ▸ h1)⟩

/-- A gathered row is the one its index word names, when the word is in range. -/
theorem gath2_apply (w : GatherDims.WF ⟨2, ![N, H]⟩ ⟨2, ![E, 1]⟩ ⟨2, ![E, H]⟩ [1] [0] [] [0] [] 1 ![1, H]) (x : (⟨2, ![N, H]⟩ : Shape).Idx → α)
    (idx : IVec ⟨2, ![E, 1]⟩ 32) (e : Fin E) (h : Fin H) (n : Fin N) (hn : (idx (ix2 e 0)).toInt = n.val) :
    Host.gather (gath2 w) x idx (ix2 e h) = x (ix2 n h) := by
  have k0 : (0 : Fin 2) ∉ (gath2 w).sKept := by simp [Shape.kept]
  have k1 : (1 : Fin 2) ∈ (gath2 w).sKept := by simp [Shape.kept]
  unfold Host.gather
  refine congrArg x (funext fun a => Fin.ext ?_)
  show (gath2 w).start (ix2 e h) idx a + (gath2 w).batchCoord (ix2 e h) a + (gath2 w).offCoord (ix2 e h) a = (ix2 n h a).val
  rw [GatherDims.batchCoord_eq_zero _ _ _ (by simp)]
  match a with
  | ⟨0, _⟩ =>
    show (gath2 w).start (ix2 e h) idx 0 + 0 + (gath2 w).offCoord (ix2 e h) 0 = n.val
    rw [GatherDims.offCoord_eq_zero _ _ _ k0]
    unfold GatherDims.start
    rw [dif_pos (List.mem_singleton.2 rfl)]
    have e0 : (gath2 w).siIdx (ix2 e h) ⟨(gath2 w).startIndexMap.idxOf 0, List.idxOf_lt_length_iff.2 (List.mem_singleton.2 rfl)⟩ = ix2 e 0 := by
      funext b
      match b with
      | ⟨0, _⟩ => rfl
      | ⟨1, _⟩ => rfl
    show min (idx ((gath2 w).siIdx (ix2 e h) ⟨(gath2 w).startIndexMap.idxOf 0, List.idxOf_lt_length_iff.2 (List.mem_singleton.2 rfl)⟩)).toInt.toNat (N - 1) + 0 + 0 = n.val
    rw [e0, hn]
    have := n.isLt
    simp only [Int.toNat_natCast]
    omega
  | ⟨1, _⟩ =>
    show (gath2 w).start (ix2 e h) idx 1 + 0 + (gath2 w).offCoord (ix2 e h) 1 = h.val
    unfold GatherDims.start GatherDims.offCoord
    rw [dif_neg (by simp), dif_pos k1]
    show 0 + 0 + h.val = h.val
    omega

/-- Dividing the sums over the edges by their denominators is summing the products with the weights divided edge by
    edge, the denominator then taken at the edge's destination. -/
theorem attend (w : ScatterDims.WF ⟨3, ![N, H, C]⟩ ⟨2, ![E, 1]⟩ ⟨3, ![E, H, C]⟩ [1, 2] [0] [0] 1)
    (wg : GatherDims.WF ⟨2, ![N, H]⟩ ⟨2, ![E, 1]⟩ ⟨2, ![E, H]⟩ [1] [0] [] [0] [] 1 ![1, H])
    (dst wrapped : IVec ⟨2, ![E, 1]⟩ 32) (hw : ∀ e : Fin E, 0 ≤ (dst (ix2 e 0)).toInt → wrapped (ix2 e 0) = dst (ix2 e 0))
    (z : FVec Ideal ⟨3, ![N, H, C]⟩ .f32) (hz : ∀ i, z i = (0 : EReal))
    (A X3 Y3 : FVec Ideal ⟨3, ![E, H, C]⟩ .f32) (ex : FVec Ideal ⟨2, ![E, H]⟩ .f32) (den : FVec Ideal ⟨2, ![N, H]⟩ .f32)
    (D3 : FVec Ideal ⟨3, ![N, H, C]⟩ .f32) (eps : EReal)
    (hX : ∀ j, X3 j = ex (ix2 (j 0) (j 1)))
    (hY : ∀ j, Y3 j = Ideal.div (ex (ix2 (j 0) (j 1))) (Host.gather (gath2 wg) den wrapped (ix2 (j 0) (j 1)) + eps : EReal))
    (hD : ∀ i, D3 i = (den (ix2 (i 0) (i 1)) + eps : EReal)) (hpos : ∀ i, (0 : EReal) < (den i + eps : EReal)) :
    Host.divf (Host.scatterAdd (scat3 w) z dst (mulf A X3)) D3 = Host.scatterAdd (scat3 w) z dst (mulf A Y3) := by
  funext i
  show Ideal.div (z i + ∑ j ∈ Finset.univ.filter (fun j => (scat3 w).resultIdx? j dst = some i), (A j * X3 j : EReal)) (D3 i)
    = z i + ∑ j ∈ Finset.univ.filter (fun j => (scat3 w).resultIdx? j dst = some i), (A j * Y3 j : EReal)
  rw [hz, zero_add, zero_add, hD, div_sum _ A X3 _ (hpos _)]
  refine Finset.sum_congr rfl fun j hj => ?_
  obtain ⟨e0, e1⟩ := scat3_lands w dst j i (Finset.mem_filter.1 hj).2
  have hwr := hw (j 0) (by rw [e0]; exact Int.natCast_nonneg _)
  rw [hY, hX, gath2_apply wg den wrapped (j 0) (j 1) (i 0) (by rw [hwr, e0])]
  have : j 1 = i 1 := Fin.ext e1
  rw [this]

/-- A sum of nonnegative updates into zeros is nonnegative. -/
theorem scatterAdd_nonneg {s si u : Shape} (d : ScatterDims s si u) (z : FVec Ideal s .f32) (idx : IVec si 32) (x : FVec Ideal u .f32)
    (hz : ∀ i, (0 : EReal) ≤ z i) (hx : ∀ j, (0 : EReal) ≤ x j) (i : s.Idx) : (0 : EReal) ≤ Host.scatterAdd d z idx x i := by
  show (0 : EReal) ≤ z i + ∑ j ∈ Finset.univ.filter (fun j => d.resultIdx? j idx = some i), (x j : EReal)
  exact add_nonneg (hz i) (Finset.sum_nonneg fun j _ => hx j)

/-- The index word moved into range from below is the word itself when that is not negative. -/
theorem wrap_apply (d : IVec ⟨1, ![E]⟩ 32) (h0 : (⟨0, ![]⟩ : Shape).BroadcastsInDim ⟨1, ![E]⟩ (![] : Fin 0 → Fin 1))
    (h1 : (⟨1, ![E]⟩ : Shape).BroadcastsInDim ⟨2, ![E, 1]⟩ ![0]) (n : BitVec 32) (e : Fin E)
    (hd : 0 ≤ (broadcastInDim (⟨2, ![E, 1]⟩ : Shape) ![0] h1 d (ix2 e 0)).toInt) :
    broadcastInDim (⟨2, ![E, 1]⟩ : Shape) ![0] h1
        (select (cmpi .slt d (broadcastInDim (⟨1, ![E]⟩ : Shape) ![] h0 (constantI ⟨0, ![]⟩ 32 0#32)))
          (addi d (broadcastInDim (⟨1, ![E]⟩ : Shape) ![] h0 (constantI ⟨0, ![]⟩ 32 n))) d) (ix2 e 0)
      = broadcastInDim (⟨2, ![E, 1]⟩ : Shape) ![0] h1 d (ix2 e 0) := by
  rw [bcCol1] at hd ⊢
  rw [bcCol1]
  show Scalar.select (IntOp.cmpi .slt (d (ix1 e)) 0#32) (d (ix1 e) + n) (d (ix1 e)) = d (ix1 e)
  unfold Scalar.select IntOp.cmpi
  have : (d (ix1 e)).slt 0#32 = false := by
    rw [BitVec.slt_eq_decide, decide_eq_false_iff_not]
    exact not_lt.2 hd
  rw [this]
  rfl

/-- One attention's weighted sum, from the rectified sums `a` on: dividing by the sums of the weights after the
    summation over the edges, or before it, the two spelled as the programs spell them. -/
theorem attention (w : ScatterDims.WF ⟨3, ![N, H, C]⟩ ⟨2, ![E, 1]⟩ ⟨3, ![E, H, C]⟩ [1, 2] [0] [0] 1)
    (wg : GatherDims.WF ⟨2, ![N, H]⟩ ⟨2, ![E, 1]⟩ ⟨2, ![E, H]⟩ [1] [0] [] [0] [] 1 ![1, H])
    (d2 : ScatterDims ⟨2, ![N, H]⟩ ⟨2, ![E, 1]⟩ ⟨2, ![E, H]⟩)
    (z2 : (⟨0, ![]⟩ : Shape).BroadcastsInDim ⟨2, ![N, H]⟩ (![] : Fin 0 → Fin 2)) (z3 : (⟨0, ![]⟩ : Shape).BroadcastsInDim ⟨3, ![N, H, C]⟩ (![] : Fin 0 → Fin 3))
    (z1 : (⟨0, ![]⟩ : Shape).BroadcastsInDim ⟨1, ![E]⟩ (![] : Fin 0 → Fin 1)) (ze : (⟨0, ![]⟩ : Shape).BroadcastsInDim ⟨2, ![E, H]⟩ (![] : Fin 0 → Fin 2))
    (hc : (⟨1, ![E]⟩ : Shape).BroadcastsInDim ⟨2, ![E, 1]⟩ ![0])
    (e1 : (⟨2, ![E, H]⟩ : Shape).BroadcastsInDim ⟨3, ![E, H, 1]⟩ ![0, 1]) (e2 : (⟨3, ![E, H, 1]⟩ : Shape).BroadcastsInDim ⟨3, ![E, H, C]⟩ ![0, 1, 2])
    (n1 : (⟨2, ![N, H]⟩ : Shape).BroadcastsInDim ⟨3, ![N, H, 1]⟩ ![0, 1]) (n2 : (⟨3, ![N, H, 1]⟩ : Shape).BroadcastsInDim ⟨3, ![N, H, C]⟩ ![0, 1, 2])
    (d : IVec ⟨1, ![E]⟩ 32) (m : BitVec 32) (A : FVec Ideal ⟨3, ![E, H, C]⟩ .f32) (a : FVec Ideal ⟨2, ![E, H]⟩ .f32) :
    Host.divf (Host.scatterAdd (scat3 w) (broadcastInDim (⟨3, ![N, H, C]⟩ : Shape) ![] z3 (constant ⟨0, ![]⟩ .f32 0x00000000#32))
        (broadcastInDim (⟨2, ![E, 1]⟩ : Shape) ![0] hc d)
        (mulf A (broadcastInDim (⟨3, ![E, H, C]⟩ : Shape) ![0, 1, 2] e2 (broadcastInDim (⟨3, ![E, H, 1]⟩ : Shape) ![0, 1] e1 (Host.exp a)))))
      (broadcastInDim (⟨3, ![N, H, C]⟩ : Shape) ![0, 1, 2] n2 (broadcastInDim (⟨3, ![N, H, 1]⟩ : Shape) ![0, 1] n1
        (addf (Host.scatterAdd d2 (broadcastInDim (⟨2, ![N, H]⟩ : Shape) ![] z2 (constant ⟨0, ![]⟩ .f32 0x00000000#32))
            (broadcastInDim (⟨2, ![E, 1]⟩ : Shape) ![0] hc d) (Host.exp a))
          (broadcastInDim (⟨2, ![N, H]⟩ : Shape) ![] z2 (constant ⟨0, ![]⟩ .f32 0x24E69595#32)))))
    = Host.scatterAdd (scat3 w) (broadcastInDim (⟨3, ![N, H, C]⟩ : Shape) ![] z3 (constant ⟨0, ![]⟩ .f32 0x00000000#32))
        (broadcastInDim (⟨2, ![E, 1]⟩ : Shape) ![0] hc d)
        (mulf A (broadcastInDim (⟨3, ![E, H, C]⟩ : Shape) ![0, 1, 2] e2 (broadcastInDim (⟨3, ![E, H, 1]⟩ : Shape) ![0, 1] e1
          (Host.divf (Host.exp a)
            (addf (Host.gather (gath2 wg)
                (Host.scatterAdd d2 (broadcastInDim (⟨2, ![N, H]⟩ : Shape) ![] z2 (constant ⟨0, ![]⟩ .f32 0x00000000#32))
                  (broadcastInDim (⟨2, ![E, 1]⟩ : Shape) ![0] hc d) (Host.exp a))
                (broadcastInDim (⟨2, ![E, 1]⟩ : Shape) ![0] hc
                  (select (cmpi .slt d (broadcastInDim (⟨1, ![E]⟩ : Shape) ![] z1 (constantI ⟨0, ![]⟩ 32 0#32)))
                    (addi d (broadcastInDim (⟨1, ![E]⟩ : Shape) ![] z1 (constantI ⟨0, ![]⟩ 32 m))) d)))
              (broadcastInDim (⟨2, ![E, H]⟩ : Shape) ![] ze (constant ⟨0, ![]⟩ .f32 0x24E69595#32))))))) := by
  have hz2 : ∀ i, (0 : EReal) ≤ broadcastInDim (⟨2, ![N, H]⟩ : Shape) ![] z2 (constant (F := Ideal) ⟨0, ![]⟩ .f32 0x00000000#32) i := fun i => by
    rw [bc0]
    show (0 : EReal) ≤ FloatOps.ofBits (F := Ideal) .f32 0x00000000#32
    rw [ofBits_zero]
  have hden := scatterAdd_nonneg d2 _ (broadcastInDim (⟨2, ![E, 1]⟩ : Shape) ![0] hc d) (Host.exp a) hz2 fun j => exp_nonneg (a j)
  refine attend w wg _ _ (fun e he => wrap_apply d z1 hc m e he) _ (fun i => ?_) A _ _ (Host.exp a)
    (Host.scatterAdd d2 (broadcastInDim (⟨2, ![N, H]⟩ : Shape) ![] z2 (constant ⟨0, ![]⟩ .f32 0x00000000#32)) (broadcastInDim (⟨2, ![E, 1]⟩ : Shape) ![0] hc d) (Host.exp a))
    _ (FloatOps.ofBits (F := Ideal) .f32 0x24E69595#32)
    (fun j => ?_) (fun j => ?_) (fun i => ?_) (fun i => ?_)
  · rw [bc0]
    exact ofBits_zero
  · rw [bcTail, bcTail1]
    rfl
  · rw [bcTail, bcTail1]
    show Ideal.div _ (_ + broadcastInDim (⟨2, ![E, H]⟩ : Shape) ![] ze (constant (F := Ideal) ⟨0, ![]⟩ .f32 0x24E69595#32) _ : EReal) = _
    rw [bc0]
    rfl
  · rw [bcTail, bcTail1]
    show (_ + broadcastInDim (⟨2, ![N, H]⟩ : Shape) ![] z2 (constant (F := Ideal) ⟨0, ![]⟩ .f32 0x24E69595#32) _ : EReal) = _
    rw [bc0]
    rfl
  · exact lt_of_lt_of_le eps_pos (le_add_of_nonneg_left (hden i))

end Cert.Layers
-- ==== Proof.StretchHead.lean ====
/- The host operations before the first launch: the edge lists with one loop per node appended, the raw edge lists, the
   reciprocal of the normalization's root, and the two projection matrices of the first graph attention. -/
module

public import proofs.«01_k».proof.Proof.Gen.KernelIdeal.Frame
public import proofs.«01_k».proof.Proof.Gen.ReferenceIdeal.Read
public import proofs.«01_k».proof.Proof.Layers
public import Idealize.ShloMosaic.Lib.StableHlo.RunRead

@[expose] public section

set_option maxRecDepth 16384

noncomputable section

namespace Cert.KernelIdeal.Stretch

open Idealize.ShloMosaic Idealize.ShloMosaic.TcCoe Idealize.ShloMosaic.ValueIdx
open Cert.KernelIdeal Cert.KernelIdeal.Gen Cert.ReferenceIdeal.Read Cert.Layers Cert.Spec

/-- The reference's edge list before its last 50000 columns is the given one. -/
theorem edges_left (x1 : (⟨S2x800000, .i32⟩ : BufTy).Contents (Elt Ideal)) (r : Fin 2) (n : Fin 850000) (h : n.val < 800000) :
    val_main_v4 (F := Ideal) x1 (ix2 r n) = x1 (ix2 r ⟨n.val, h⟩) := by
  unfold val_main_v4
  exact concatenate_pair_apply_left (t := Cert.ReferenceIdeal.S2x850000) (s₁ := S2x800000) (s₂ := Cert.ReferenceIdeal.S2x50000) 1 _ _ _ (ix2 r n) rfl (ix2 r ⟨n.val, h⟩) fun b => match b with
    | ⟨0, _⟩ => rfl
    | ⟨1, _⟩ => rfl

/-- Its last 50000 columns are the loops: column `800000 + n` holds `n` twice. -/
theorem edges_right (x1 : (⟨S2x800000, .i32⟩ : BufTy).Contents (Elt Ideal)) (r : Fin 2) (n : Fin 50000) (q : Fin 850000) (h : q.val = n.val + 800000) :
    val_main_v4 (F := Ideal) x1 (ix2 r q) = BitVec.ofNat 32 n.val := by
  unfold val_main_v4
  rw [concatenate_pair_apply_right (t := Cert.ReferenceIdeal.S2x850000) (s₁ := S2x800000) (s₂ := Cert.ReferenceIdeal.S2x50000) 1 _ _ _ (ix2 r q) rfl rfl (ix2 r n)
    (fun b hb => match b with
      | ⟨0, _⟩ => rfl
      | ⟨1, _⟩ => absurd rfl hb) h.symm]
  unfold val_main_v3
  match r with
  | ⟨0, _⟩ =>
    rw [concatenate_pair_apply_left (t := Cert.ReferenceIdeal.S2x50000) (s₁ := Cert.ReferenceIdeal.S1x50000) (s₂ := Cert.ReferenceIdeal.S1x50000) 0 _ _ _ _ rfl (ix2 0 n) fun b => match b with
      | ⟨0, _⟩ => rfl
      | ⟨1, _⟩ => rfl]
    rw [val_main_v1_apply]
    rfl
  | ⟨1, _⟩ =>
    rw [concatenate_pair_apply_right (t := Cert.ReferenceIdeal.S2x50000) (s₁ := Cert.ReferenceIdeal.S1x50000) (s₂ := Cert.ReferenceIdeal.S1x50000) 0 _ _ _ _ rfl rfl (ix2 0 n)
      (fun b hb => match b with
        | ⟨0, _⟩ => absurd rfl hb
        | ⟨1, _⟩ => rfl) rfl]
    rw [val_main_v2_apply]
    rfl

/-- One row of the given edge list with the loops appended, read. -/
theorem list_apply (x : S800000.Idx → BitVec 32) (x1 : (⟨S2x800000, .i32⟩ : BufTy).Contents (Elt Ideal)) (r : Fin 2)
    (hx : ∀ n : Fin 800000, x (ix1 n) = x1 (ix2 r n)) (n : Fin 850000) :
    concatenate S850000 0 [⟨S800000, x⟩, ⟨S50000, iotaInDim S50000 32 0⟩] concatenates_S800000_S50000_S850000_d0 (ix1 n)
      = val_main_v4 (F := Ideal) x1 (ix2 r n) := by
  by_cases h : n.val < 800000
  · rw [edges_left x1 r n h, concatenate_pair_apply_left (t := S850000) (s₁ := S800000) (s₂ := S50000) 0 _ _ _ (ix1 n) rfl (ix1 ⟨n.val, h⟩) fun b => match b with
      | ⟨0, _⟩ => rfl]
    exact hx ⟨n.val, h⟩
  · have hn := n.isLt
    have hq : n.val = (⟨n.val - 800000, by omega⟩ : Fin 50000).val + 800000 := by show n.val = n.val - 800000 + 800000; omega
    rw [edges_right x1 r ⟨n.val - 800000, by omega⟩ n hq, concatenate_pair_apply_right (t := S850000) (s₁ := S800000) (s₂ := S50000) 0 _ _ _ (ix1 n) rfl rfl
      (ix1 ⟨n.val - 800000, by omega⟩) (fun b hb => match b with
        | ⟨0, _⟩ => absurd rfl hb) hq.symm]
    rfl

/-- A row of the edge list cut out and flattened, read. -/
theorem row_apply (x1 : S2x800000.Idx → BitVec 32) (r : Fin 2) (off : Fin 2 → Nat) (ho : off = ![r.val, 0]) (hs : S2x800000.Slices off S1x800000) (n : Fin 800000) :
    shapeCast S800000 (extractStridedSlice S1x800000 off x1 hs) shapeCasts_S1x800000_S800000 (ix1 n) = x1 (ix2 r n) := by
  subst ho
  rw [shapeCast_apply _ _ (ix1 n) (ix2 (0 : Fin 1) n) (by
    rw [Shape.rowMajor_val_two, Shape.rowMajor_val_one]
    show 0 * 800000 + n.val = n.val
    omega)]
  exact extractStridedSlice_apply _ x1 hs _ _ fun a => match a with
    | ⟨0, _⟩ => rfl
    | ⟨1, _⟩ => (Nat.zero_add _).symm

/-- The reference's sources are the first row of its edge list. -/
theorem val_v6_apply (x1 : (⟨S2x800000, .i32⟩ : BufTy).Contents (Elt Ideal)) (n : Fin 850000) :
    val_main_v6 (F := Ideal) x1 (ix1 n) = val_main_v4 (F := Ideal) x1 (ix2 0 n) := by
  rw [val_main_v6_apply, val_main_v5_apply]
  refine congrArg _ (funext fun a => Fin.ext ?_)
  match a with
  | ⟨0, _⟩ => rfl
  | ⟨1, _⟩ => have := n.isLt; simp; try omega

/-- The reference's destinations are the second row of its edge list. -/
theorem val_v8_apply (x1 : (⟨S2x800000, .i32⟩ : BufTy).Contents (Elt Ideal)) (n : Fin 850000) :
    val_main_v8 (F := Ideal) x1 (ix1 n) = val_main_v4 (F := Ideal) x1 (ix2 1 n) := by
  rw [val_main_v8_apply, val_main_v7_apply]
  refine congrArg _ (funext fun a => Fin.ext ?_)
  match a with
  | ⟨0, _⟩ => rfl
  | ⟨1, _⟩ => have := n.isLt; simp; try omega

variable (V : Valuation τ sig (Elt Ideal))

/-- The sources of the edges, loops appended. -/
theorem head_src {x1 : (⟨S2x800000, .i32⟩ : BufTy).Contents (Elt Ideal)} (h : V (Proc.devRef .tc main_arg1) = x1) :
    StableHlo.after hostOps0 V (Proc.devRef .tc main_v5) = val_main_v6 (F := Ideal) x1 := by
  have hrow : StableHlo.upto hostOps0 V 5 (Proc.devRef .tc main_v2) = val_main_v139 (F := Ideal) x1 := by
    after_reads_simp
    rw [h]
    rfl
  have hloop : StableHlo.upto hostOps0 V 5 (Proc.devRef .tc main_v0) = iotaInDim S50000 32 0 := by
    after_reads_simp
  after_reads_simp
  rw [hrow, hloop]
  funext i
  obtain ⟨n, rfl⟩ : ∃ n : Fin 850000, i = ix1 n := ⟨_, eq_ix1 (n := 850000) i⟩
  rw [val_v6_apply]
  exact list_apply _ x1 0 (fun n => row_apply x1 0 _ rfl _ n) n

/-- The destinations of the edges, loops appended. -/
theorem head_dst {x1 : (⟨S2x800000, .i32⟩ : BufTy).Contents (Elt Ideal)} (h : V (Proc.devRef .tc main_arg1) = x1) :
    StableHlo.after hostOps0 V (Proc.devRef .tc main_v6) = val_main_v8 (F := Ideal) x1 := by
  have hrow : StableHlo.upto hostOps0 V 6 (Proc.devRef .tc main_v4) = val_main_v141 (F := Ideal) x1 := by
    after_reads_simp
    rw [h]
    rfl
  have hloop : StableHlo.upto hostOps0 V 6 (Proc.devRef .tc main_v0) = iotaInDim S50000 32 0 := by
    after_reads_simp
  after_reads_simp
  rw [hrow, hloop]
  funext i
  obtain ⟨n, rfl⟩ : ∃ n : Fin 850000, i = ix1 n := ⟨_, eq_ix1 (n := 850000) i⟩
  rw [val_v8_apply]
  exact list_apply _ x1 1 (fun n => row_apply x1 1 _ rfl _ n) n

/-- The sources of the given edges. -/
theorem head_rawSrc {x1 : (⟨S2x800000, .i32⟩ : BufTy).Contents (Elt Ideal)} (h : V (Proc.devRef .tc main_arg1) = x1) :
    StableHlo.after hostOps0 V (Proc.devRef .tc main_v2) = val_main_v139 (F := Ideal) x1 := by
  after_reads_simp
  rw [h]
  rfl

/-- The destinations of the given edges. -/
theorem head_rawDst {x1 : (⟨S2x800000, .i32⟩ : BufTy).Contents (Elt Ideal)} (h : V (Proc.devRef .tc main_arg1) = x1) :
    StableHlo.after hostOps0 V (Proc.devRef .tc main_v4) = val_main_v141 (F := Ideal) x1 := by
  after_reads_simp
  rw [h]
  rfl

/-- The reciprocal of the root. -/
theorem head_root : StableHlo.after hostOps0 V (Proc.devRef .tc main_v8) = invRoot := by
  after_reads_simp
  rfl

/-- The projection matrix of the 8 heads, from a matrix of attention vectors. -/
abbrev headMat8 (a : FVec Ideal S8x128 .f32) : FVec Ideal S1024x8 .f32 :=
  headMat (H := 8) (C := 128) (P := 1024) bcast_S_S8x8 bcast_S8x128_S8x128x1_0_1 bcast_S8x128x1_S8x128x8_0_1_2 bcast_S8x8_S8x1x8_0_2
    bcast_S8x1x8_S8x128x8_0_1_2 shapeCasts_S8x128x8_S1024x8 a

/-- The first attention's source projection. -/
theorem head_projSrc {x4 : (⟨S8x128, .f32⟩ : BufTy).Contents (Elt Ideal)} (h : V (Proc.devRef .tc main_arg4) = x4) :
    StableHlo.after hostOps0 V (Proc.devRef .tc main_v20) = headMat8 x4 := by
  after_reads_simp
  rw [h]
  rfl

/-- The first attention's destination projection. -/
theorem head_projDst {x5 : (⟨S8x128, .f32⟩ : BufTy).Contents (Elt Ideal)} (h : V (Proc.devRef .tc main_arg5) = x5) :
    StableHlo.after hostOps0 V (Proc.devRef .tc main_v32) = headMat8 x5 := by
  after_reads_simp
  rw [h]
  rfl

variable {x0 : (⟨S50000x15, .f32⟩ : BufTy).Contents (Elt Ideal)} {x3 : (⟨S15x1024, .f32⟩ : BufTy).Contents (Elt Ideal)}
  {x4 x5 : (⟨S8x128, .f32⟩ : BufTy).Contents (Elt Ideal)}

/-- The projection onto the source vectors is the reference's sum over the channels. -/
theorem proj_src : gemm (M := 50000) (K := 1024) (N := 8) (val_main_v9 (F := Ideal) x0 x3) (headMat8 x4) = val_main_v14 (F := Ideal) x0 x3 x4 := by
  funext i
  rw [val_main_v14_apply, gemm_headMat (M := 50000) (H := 8) (C := 128) (P := 1024) rfl (by norm_num) _ _ _ _ _ _ _ _
    shapeCasts_S50000x1024_S50000x8x128 Cert.ReferenceIdeal.Gen.bcast_S8x128_S1x8x128_1_2 Cert.ReferenceIdeal.Gen.bcast_S1x8x128_S50000x8x128_0_1_2]
  rw [val_main_cst_apply, ofBits_zero, zero_add]
  refine Finset.sum_congr rfl fun k _ => ?_
  unfold val_main_v13
  refine congrArg (mulf (F := Ideal) (s := Cert.ReferenceIdeal.S50000x8x128) (φ := .f32) (val_main_v10 (F := Ideal) x0 x3) (val_main_v12 (F := Ideal) x4)) (funext fun a => ?_)
  match a with
  | ⟨0, _⟩ => rfl
  | ⟨1, _⟩ => rfl
  | ⟨2, _⟩ => rfl

/-- The projection onto the destination vectors is the reference's sum over the channels. -/
theorem proj_dst : gemm (M := 50000) (K := 1024) (N := 8) (val_main_v9 (F := Ideal) x0 x3) (headMat8 x5) = val_main_v18 (F := Ideal) x0 x3 x5 := by
  funext i
  rw [val_main_v18_apply, gemm_headMat (M := 50000) (H := 8) (C := 128) (P := 1024) rfl (by norm_num) _ _ _ _ _ _ _ _
    shapeCasts_S50000x1024_S50000x8x128 Cert.ReferenceIdeal.Gen.bcast_S8x128_S1x8x128_1_2 Cert.ReferenceIdeal.Gen.bcast_S1x8x128_S50000x8x128_0_1_2]
  rw [val_main_cst_0_apply, ofBits_zero, zero_add]
  refine Finset.sum_congr rfl fun k _ => ?_
  unfold val_main_v17
  refine congrArg (mulf (F := Ideal) (s := Cert.ReferenceIdeal.S50000x8x128) (φ := .f32) (val_main_v10 (F := Ideal) x0 x3) (val_main_v16 (F := Ideal) x5)) (funext fun a => ?_)
  match a with
  | ⟨0, _⟩ => rfl
  | ⟨1, _⟩ => rfl
  | ⟨2, _⟩ => rfl

end Cert.KernelIdeal.Stretch
-- ==== Proof.StretchGat1.lean ====
/- The host operations between the first and the second launch: the attention weights of the first graph attention and
   their weighted sum over the edges, read at the reference's values. -/
module

public import proofs.«01_k».proof.Proof.Gen.KernelIdeal.Frame
public import proofs.«01_k».proof.Proof.Gen.ReferenceIdeal.Read
public import proofs.«01_k».proof.Proof.StretchHead
public import Idealize.ShloMosaic.Lib.StableHlo.RunRead

@[expose] public section

set_option maxRecDepth 16384

noncomputable section

namespace Cert.KernelIdeal.Stretch

open Idealize.ShloMosaic Idealize.ShloMosaic.TcCoe Idealize.ShloMosaic.ValueIdx
open Cert.KernelIdeal Cert.KernelIdeal.Gen Cert.ReferenceIdeal.Read Cert.Layers Cert.Spec

variable (V : Valuation τ sig (Elt Ideal))
variable {x0 : (⟨S50000x15, .f32⟩ : BufTy).Contents (Elt Ideal)} {x1 : (⟨S2x800000, .i32⟩ : BufTy).Contents (Elt Ideal)}
  {x3 : (⟨S15x1024, .f32⟩ : BufTy).Contents (Elt Ideal)} {x4 x5 : (⟨S8x128, .f32⟩ : BufTy).Contents (Elt Ideal)}

/-- The sum of the two attention terms of each edge. -/
theorem gat1_logit (h5 : V (Proc.devRef .tc main_v5) = val_main_v6 (F := Ideal) x1) (h6 : V (Proc.devRef .tc main_v6) = val_main_v8 (F := Ideal) x1)
    (h1 : V (Proc.devRef .tc main_v33_1) = val_main_v14 (F := Ideal) x0 x3 x4) (h2 : V (Proc.devRef .tc main_v33_2) = val_main_v18 (F := Ideal) x0 x3 x5) :
    StableHlo.after hostOps1 V (Proc.devRef .tc main_v48) = val_main_v33 (F := Ideal) x0 x1 x3 x4 x5 := by
  after_reads_simp
  rw [h5, h6, h1, h2]
  rfl

/-- The slope below zero. -/
theorem gat1_slope : StableHlo.after hostOps1 V (Proc.devRef .tc main_cst_6) = val_main_cst_4 (F := Ideal) := by
  after_reads_simp
  rfl

/-- The leaky rectifier of the sums. -/
theorem gat1_leaky (h : V (Proc.devRef .tc main_v48) = val_main_v33 (F := Ideal) x0 x1 x3 x4 x5)
    (hs : V (Proc.devRef .tc main_cst_6) = val_main_cst_4 (F := Ideal)) :
    StableHlo.after hostOps1_1 V (Proc.devRef .tc main_v49) = val_main_v34 (F := Ideal) x0 x1 x3 x4 x5 := by
  after_reads_simp
  simp only [StableHlo.TRef.ofBuf_toBuf]
  rw [h, hs]
  unfold val_main_v34 val_main_call0_v1 val_main_call0_v4
  generalize val_main_v33 (F := Ideal) x0 x1 x3 x4 x5 = w
  rfl

/-- The weighted sums over the edges, divided by the sums of the weights, are the reference's sums. -/
theorem gat1_core : (Host.divf (Host.scatterAdd scatter_S50000x8x128_S850000x1_S850000x8x128_12_0_0_1 (val_main_v59 (F := Ideal)) (val_main_v60 (F := Ideal) x1)
          (mulf (val_main_v55 (F := Ideal) x0 x1 x3)
            (broadcastInDim S850000x8x128 ![0, 1, 2] bcast_S850000x8x1_S850000x8x128_0_1_2
              (broadcastInDim S850000x8x1 ![0, 1] bcast_S850000x8_S850000x8x1_0_1 (val_main_v35 (F := Ideal) x0 x1 x3 x4 x5)))))
        (broadcastInDim S50000x8x128 ![0, 1, 2] bcast_S50000x8x1_S50000x8x128_0_1_2
          (broadcastInDim S50000x8x1 ![0, 1] bcast_S50000x8_S50000x8x1_0_1
            (addf (val_main_v38 (F := Ideal) x0 x1 x3 x4 x5) (broadcastInDim S50000x8 ![] bcast_S_S50000x8 (constant S_ .f32 0x24E69595#32))))) : FVec Ideal S50000x8x128 .f32)
      = val_main_v61 (F := Ideal) x0 x1 x3 x4 x5 :=
  attention (N := 50000) (H := 8) (C := 128) (E := 850000) scatter_S50000x8x128_S850000x1_S850000x8x128_12_0_0_1.wf
    Cert.ReferenceIdeal.gather_S50000x8_S850000x1_S850000x8_1_0_n_n_0_1_18.wf scatter_S50000x8_S850000x1_S850000x8_1_0_0_1
    bcast_S_S50000x8 bcast_S_S50000x8x128 bcast_S_S850000 Cert.ReferenceIdeal.Gen.bcast_S_S850000x8 bcast_S850000_S850000x1_0 bcast_S850000x8_S850000x8x1_0_1
    bcast_S850000x8x1_S850000x8x128_0_1_2 bcast_S50000x8_S50000x8x1_0_1 bcast_S50000x8x1_S50000x8x128_0_1_2
    (val_main_v8 (F := Ideal) x1) 50000#32 (val_main_v55 (F := Ideal) x0 x1 x3) (val_main_v34 (F := Ideal) x0 x1 x3 x4 x5)

/-- The first attention's sums, a row per node. -/
theorem gat1_sum (h5 : V (Proc.devRef .tc main_v5) = val_main_v6 (F := Ideal) x1) (h6 : V (Proc.devRef .tc main_v6) = val_main_v8 (F := Ideal) x1)
    (h0 : V (Proc.devRef .tc main_v33_0) = val_main_v9 (F := Ideal) x0 x3) (h : V (Proc.devRef .tc main_v49) = val_main_v34 (F := Ideal) x0 x1 x3 x4 x5) :
    StableHlo.after hostOps1_2 V (Proc.devRef .tc main_v73) = val_main_v62 (F := Ideal) x0 x1 x3 x4 x5 := by
  after_reads_simp
  rw [h5, h6, h0, h]
  exact congrArg (fun q => shapeCast S50000x1024 q shapeCasts_S50000x8x128_S50000x1024) gat1_core

/-- The first normalization's scale. -/
theorem gat1_scale {x7 : (⟨S1024, .f32⟩ : BufTy).Contents (Elt Ideal)} (h8 : V (Proc.devRef .tc main_v8) = invRoot)
    (h7 : V (Proc.devRef .tc main_arg7) = x7) :
    StableHlo.after hostOps1_2 V (Proc.devRef .tc main_v76) = scaleRow bcast_S_S1024 bcast_S1024_S1x1024_1 x7 := by
  after_reads_simp
  rw [h8, h7]
  rfl

/-- The first normalization's shift. -/
theorem gat1_shift {x6 x7 x8 : (⟨S1024, .f32⟩ : BufTy).Contents (Elt Ideal)} (h8 : V (Proc.devRef .tc main_v8) = invRoot)
    (h6 : V (Proc.devRef .tc main_arg6) = x6) (h7 : V (Proc.devRef .tc main_arg7) = x7) (hb : V (Proc.devRef .tc main_arg8) = x8) :
    StableHlo.after hostOps1_2 V (Proc.devRef .tc main_v81) = shiftRow bcast_S_S1024 bcast_S1024_S1x1024_1 x6 x7 x8 := by
  after_reads_simp
  rw [h8, h6, h7, hb]
  rfl

/-- The first layer's output as the normalization with the rectifier, the scale and shift folded. -/
theorem gat1_norm {x6 x7 x8 : (⟨S1024, .f32⟩ : BufTy).Contents (Elt Ideal)} (hb : ∀ j, ∃ r : ℝ, x6 j = (r : EReal)) (hγ : ∀ j, ∃ r : ℝ, x7 j = (r : EReal)) :
    bnElu (M := 50000) (K := 1024) (val_main_v62 (F := Ideal) x0 x1 x3 x4 x5) (scaleRow bcast_S_S1024 bcast_S1024_S1x1024_1 x7)
        (shiftRow bcast_S_S1024 bcast_S1024_S1x1024_1 x6 x7 x8)
      = val_main_v76 (F := Ideal) x0 x1 x3 x4 x5 x6 x7 x8 := by
  refine (bnElu_eq_ref (M := 50000) (N := 1024) bcast_S_S1024 Cert.ReferenceIdeal.Gen.bcast_S_S50000x1024 bcast_S1024_S1x1024_1
    Cert.ReferenceIdeal.Gen.bcast_S1x1024_S50000x1024_0_1 (val_main_v62 (F := Ideal) x0 x1 x3 x4 x5) x6 x7 x8 hb hγ).trans ?_
  have hn : normRef (M := 50000) (N := 1024) bcast_S_S1024 bcast_S1024_S1x1024_1 Cert.ReferenceIdeal.Gen.bcast_S1x1024_S50000x1024_0_1
      (val_main_v62 (F := Ideal) x0 x1 x3 x4 x5) x6 x7 x8 = val_main_v75 (F := Ideal) x0 x1 x3 x4 x5 x6 x7 x8 := by
    unfold val_main_v75 val_main_v72 val_main_v65
    generalize val_main_v62 (F := Ideal) x0 x1 x3 x4 x5 = g
    rfl
  rw [hn]
  unfold val_main_v76 val_main_call1_v1 val_main_call1_v7 val_main_call1_v5 val_main_call1_v4 val_main_call1_v3
  generalize val_main_v75 (F := Ideal) x0 x1 x3 x4 x5 x6 x7 x8 = y
  rfl

end Cert.KernelIdeal.Stretch
-- ==== Proof.StretchGcn.lean ====
/- The host operations between the second and the third launch: the symmetric normalization of the graph convolution
   and its sum over the edges, read at the reference's values. -/
module

public import proofs.«01_k».proof.Proof.Gen.KernelIdeal.Frame
public import proofs.«01_k».proof.Proof.Gen.ReferenceIdeal.Read
public import proofs.«01_k».proof.Proof.StretchHead
public import Idealize.ShloMosaic.Lib.StableHlo.RunRead

@[expose] public section

set_option maxRecDepth 16384

noncomputable section

namespace Cert.KernelIdeal.Stretch

open Idealize.ShloMosaic Idealize.ShloMosaic.TcCoe Idealize.ShloMosaic.ValueIdx
open Cert.KernelIdeal Cert.KernelIdeal.Gen Cert.ReferenceIdeal.Read Cert.Layers Cert.Spec Cert.Arith

variable (V : Valuation τ sig (Elt Ideal))
variable {x0 : (⟨S50000x15, .f32⟩ : BufTy).Contents (Elt Ideal)} {x1 : (⟨S2x800000, .i32⟩ : BufTy).Contents (Elt Ideal)}
  {x3 : (⟨S15x1024, .f32⟩ : BufTy).Contents (Elt Ideal)} {x4 x5 : (⟨S8x128, .f32⟩ : BufTy).Contents (Elt Ideal)}
  {x6 x7 x8 : (⟨S1024, .f32⟩ : BufTy).Contents (Elt Ideal)} {x9 : (⟨S1024x128, .f32⟩ : BufTy).Contents (Elt Ideal)}
  {x10 x11 x12 : (⟨S128, .f32⟩ : BufTy).Contents (Elt Ideal)}

/-- The second list of sources is the first. -/
theorem src_again : val_main_v83 (F := Ideal) x1 = val_main_v6 (F := Ideal) x1 := rfl
/-- The second list of destinations is the first. -/
theorem dst_again : val_main_v85 (F := Ideal) x1 = val_main_v8 (F := Ideal) x1 := rfl
/-- The third list of sources is the first. -/
theorem src_third : val_main_v184 (F := Ideal) x1 = val_main_v6 (F := Ideal) x1 := rfl
/-- The third list of destinations is the first. -/
theorem dst_third : val_main_v186 (F := Ideal) x1 = val_main_v8 (F := Ideal) x1 := rfl

/-- The second launch's product is the reference's. -/
theorem gcn_lin : gemm (M := 50000) (K := 1024) (N := 128) (val_main_v76 (F := Ideal) x0 x1 x3 x4 x5 x6 x7 x8) x9
    = val_main_v86 (F := Ideal) x0 x1 x3 x4 x5 x6 x7 x8 x9 :=
  (dotGeneral_eq_gemm (M := 50000) (K := 1024) (N := 128) none _ _).symm

/-- Which nodes have an edge. -/
theorem gcn_has (h6 : V (Proc.devRef .tc main_v6) = val_main_v8 (F := Ideal) x1) :
    StableHlo.after hostOps2 V (Proc.devRef .tc main_v88) = val_main_v92 (F := Ideal) x1 := by
  after_reads_simp
  rw [h6, ← dst_again]
  rfl

/-- The power of the degrees. -/
theorem gcn_pow (h6 : V (Proc.devRef .tc main_v6) = val_main_v8 (F := Ideal) x1) :
    StableHlo.after hostOps2 V (Proc.devRef .tc main_v90) = val_main_v94 (F := Ideal) x1 := by
  after_reads_simp
  rw [h6, ← dst_again]
  rfl

/-- The constant where there is none. -/
theorem gcn_none : StableHlo.after hostOps2 V (Proc.devRef .tc main_cst_16) = val_main_cst_17 (F := Ideal) := by
  after_reads_simp
  rfl

/-- The inverse roots of the degrees. -/
theorem gcn_inv (h : V (Proc.devRef .tc main_v88) = val_main_v92 (F := Ideal) x1) (h' : V (Proc.devRef .tc main_v90) = val_main_v94 (F := Ideal) x1)
    (hc : V (Proc.devRef .tc main_cst_16) = val_main_cst_17 (F := Ideal)) :
    StableHlo.after hostOps2_1 V (Proc.devRef .tc main_v91) = val_main_v95 (F := Ideal) x1 := by
  after_reads_simp
  simp only [StableHlo.TRef.ofBuf_toBuf]
  rw [h, h', hc]
  unfold val_main_v95
  generalize val_main_v92 (F := Ideal) x1 = p
  generalize val_main_v94 (F := Ideal) x1 = w
  rfl

/-- The convolution's sums. -/
theorem gcn_sum (h5 : V (Proc.devRef .tc main_v5) = val_main_v6 (F := Ideal) x1) (h6 : V (Proc.devRef .tc main_v6) = val_main_v8 (F := Ideal) x1)
    (h : V (Proc.devRef .tc main_v82) = val_main_v86 (F := Ideal) x0 x1 x3 x4 x5 x6 x7 x8 x9) (hd : V (Proc.devRef .tc main_v91) = val_main_v95 (F := Ideal) x1) :
    StableHlo.after hostOps2_2 V (Proc.devRef .tc main_v119) = val_main_v123 (F := Ideal) x0 x1 x3 x4 x5 x6 x7 x8 x9 := by
  after_reads_simp
  rw [h5, h6, h, hd, ← src_again, ← dst_again]
  rfl

/-- The second normalization's scale. -/
theorem gcn_scale (h8 : V (Proc.devRef .tc main_v8) = invRoot) (h : V (Proc.devRef .tc main_arg11) = x11) :
    StableHlo.after hostOps2_2 V (Proc.devRef .tc main_v122) = scaleRow bcast_S_S128 bcast_S128_S1x128_1 x11 := by
  after_reads_simp
  rw [h8, h]
  rfl

/-- The second normalization's shift. -/
theorem gcn_shift (h8 : V (Proc.devRef .tc main_v8) = invRoot)
    (h : V (Proc.devRef .tc main_arg10) = x10) (h' : V (Proc.devRef .tc main_arg11) = x11) (h'' : V (Proc.devRef .tc main_arg12) = x12) :
    StableHlo.after hostOps2_2 V (Proc.devRef .tc main_v127) = shiftRow bcast_S_S128 bcast_S128_S1x128_1 x10 x11 x12 := by
  after_reads_simp
  rw [h8, h, h', h'']
  rfl

/-- The second layer's output as the normalization with the rectifier, the scale and shift folded. -/
theorem gcn_norm (hb : ∀ j, ∃ r : ℝ, x10 j = (r : EReal)) (hγ : ∀ j, ∃ r : ℝ, x11 j = (r : EReal)) :
    bnElu (M := 50000) (K := 128) (val_main_v123 (F := Ideal) x0 x1 x3 x4 x5 x6 x7 x8 x9) (scaleRow bcast_S_S128 bcast_S128_S1x128_1 x11)
        (shiftRow bcast_S_S128 bcast_S128_S1x128_1 x10 x11 x12)
      = val_main_v137 (F := Ideal) x0 x1 x3 x4 x5 x6 x7 x8 x9 x10 x11 x12 := by
  refine (bnElu_eq_ref (M := 50000) (N := 128) bcast_S_S128 Cert.ReferenceIdeal.Gen.bcast_S_S50000x128 bcast_S128_S1x128_1
    Cert.ReferenceIdeal.Gen.bcast_S1x128_S50000x128_0_1 (val_main_v123 (F := Ideal) x0 x1 x3 x4 x5 x6 x7 x8 x9) x10 x11 x12 hb hγ).trans ?_
  have hn : normRef (M := 50000) (N := 128) bcast_S_S128 bcast_S128_S1x128_1 Cert.ReferenceIdeal.Gen.bcast_S1x128_S50000x128_0_1
      (val_main_v123 (F := Ideal) x0 x1 x3 x4 x5 x6 x7 x8 x9) x10 x11 x12 = val_main_v136 (F := Ideal) x0 x1 x3 x4 x5 x6 x7 x8 x9 x10 x11 x12 := by
    unfold val_main_v136 val_main_v133 val_main_v126
    generalize val_main_v123 (F := Ideal) x0 x1 x3 x4 x5 x6 x7 x8 x9 = g
    rfl
  rw [hn]
  unfold val_main_v137 val_main_call3_v1 val_main_call3_v7 val_main_call3_v5 val_main_call3_v4 val_main_call3_v3
  generalize val_main_v136 (F := Ideal) x0 x1 x3 x4 x5 x6 x7 x8 x9 x10 x11 x12 = y
  rfl

end Cert.KernelIdeal.Stretch
-- ==== Proof.StretchSage.lean ====
/- The host operations between the third and the fourth launch: the mean over the given edges, the third
   normalization's scale and shift, and the projection matrices of the second graph attention. -/
module

public import proofs.«01_k».proof.Proof.Gen.KernelIdeal.Frame
public import proofs.«01_k».proof.Proof.Gen.ReferenceIdeal.Read
public import proofs.«01_k».proof.Proof.StretchGcn
public import Idealize.ShloMosaic.Lib.StableHlo.RunRead

@[expose] public section

set_option maxRecDepth 16384

noncomputable section

namespace Cert.KernelIdeal.Stretch

open Idealize.ShloMosaic Idealize.ShloMosaic.TcCoe Idealize.ShloMosaic.ValueIdx
open Cert.KernelIdeal Cert.KernelIdeal.Gen Cert.ReferenceIdeal.Read Cert.Layers Cert.Spec Cert.Arith

variable (V : Valuation τ sig (Elt Ideal))
variable {x0 : (⟨S50000x15, .f32⟩ : BufTy).Contents (Elt Ideal)} {x1 : (⟨S2x800000, .i32⟩ : BufTy).Contents (Elt Ideal)}
  {x3 : (⟨S15x1024, .f32⟩ : BufTy).Contents (Elt Ideal)} {x4 x5 : (⟨S8x128, .f32⟩ : BufTy).Contents (Elt Ideal)}
  {x6 x7 x8 : (⟨S1024, .f32⟩ : BufTy).Contents (Elt Ideal)} {x9 : (⟨S1024x128, .f32⟩ : BufTy).Contents (Elt Ideal)}
  {x10 x11 x12 : (⟨S128, .f32⟩ : BufTy).Contents (Elt Ideal)}
  {x13 : (⟨S128x128, .f32⟩ : BufTy).Contents (Elt Ideal)} {x14 : (⟨S128, .f32⟩ : BufTy).Contents (Elt Ideal)}
  {x15 : (⟨S128x128, .f32⟩ : BufTy).Contents (Elt Ideal)} {x16 x17 : (⟨S128, .f32⟩ : BufTy).Contents (Elt Ideal)}
  {x18 : (⟨S128x512, .f32⟩ : BufTy).Contents (Elt Ideal)} {x19 x20 : (⟨S4x128, .f32⟩ : BufTy).Contents (Elt Ideal)}
  {x21 x22 x23 : (⟨S128, .f32⟩ : BufTy).Contents (Elt Ideal)}

/-- The third launch's product is the reference's. -/
theorem sage_self : gemm (M := 50000) (K := 128) (N := 128) (val_main_v137 (F := Ideal) x0 x1 x3 x4 x5 x6 x7 x8 x9 x10 x11 x12) x15
    = val_main_v165 (F := Ideal) x0 x1 x3 x4 x5 x6 x7 x8 x9 x10 x11 x12 x15 :=
  (dotGeneral_eq_gemm (M := 50000) (K := 128) (N := 128) none _ _).symm

/-- The mean of the neighbours. -/
theorem sage_mean (h2 : V (Proc.devRef .tc main_v2) = val_main_v139 (F := Ideal) x1) (h4 : V (Proc.devRef .tc main_v4) = val_main_v141 (F := Ideal) x1)
    (h : V (Proc.devRef .tc main_v128_0) = val_main_v137 (F := Ideal) x0 x1 x3 x4 x5 x6 x7 x8 x9 x10 x11 x12) :
    StableHlo.after hostOps3 V (Proc.devRef .tc main_v147) = val_main_v160 (F := Ideal) x0 x1 x3 x4 x5 x6 x7 x8 x9 x10 x11 x12 := by
  after_reads_simp
  rw [h2, h4, h]
  rfl

/-- The third normalization's scale. -/
theorem sage_scale (h8 : V (Proc.devRef .tc main_v8) = invRoot) (h : V (Proc.devRef .tc main_arg16) = x16) :
    StableHlo.after hostOps3 V (Proc.devRef .tc main_v150) = scaleRow bcast_S_S128 bcast_S128_S1x128_1 x16 := by
  after_reads_simp
  rw [h8, h]
  rfl

/-- Adding a row of zeros to the bias leaves it. -/
theorem bias_zero (x : FVec Ideal S128 .f32) :
    addf x (broadcastInDim S128 ![] bcast_S_S128 (constant (F := Ideal) S_ .f32 0x00000000#32)) = x := by
  funext j
  show (x j + broadcastInDim S128 ![] bcast_S_S128 (constant (F := Ideal) S_ .f32 0x00000000#32) j : EReal) = x j
  rw [bc0]
  show (x j + FloatOps.ofBits (F := Ideal) .f32 0x00000000#32 : EReal) = x j
  rw [ofBits_zero, add_zero]

/-- The third normalization's shift. -/
theorem sage_shift (h8 : V (Proc.devRef .tc main_v8) = invRoot)
    (h : V (Proc.devRef .tc main_arg14) = x14) (h' : V (Proc.devRef .tc main_arg16) = x16) (h'' : V (Proc.devRef .tc main_arg17) = x17) :
    StableHlo.after hostOps3 V (Proc.devRef .tc main_v157) = shiftRow bcast_S_S128 bcast_S128_S1x128_1 x14 x16 x17 := by
  after_reads_simp
  rw [h8, h, h', h'', bias_zero]
  rfl

/-- The projection matrix of the 4 heads, from a matrix of attention vectors. -/
abbrev headMat4 (a : FVec Ideal S4x128 .f32) : FVec Ideal S512x4 .f32 :=
  headMat (H := 4) (C := 128) (P := 512) bcast_S_S4x4 bcast_S4x128_S4x128x1_0_1 bcast_S4x128x1_S4x128x4_0_1_2 bcast_S4x4_S4x1x4_0_2
    bcast_S4x1x4_S4x128x4_0_1_2 shapeCasts_S4x128x4_S512x4 a

/-- The second attention's source projection. -/
theorem sage_projSrc (h : V (Proc.devRef .tc main_arg19) = x19) : StableHlo.after hostOps3 V (Proc.devRef .tc main_v169) = headMat4 x19 := by
  after_reads_simp
  rw [h]
  rfl

/-- The second attention's destination projection. -/
theorem sage_projDst (h : V (Proc.devRef .tc main_arg20) = x20) : StableHlo.after hostOps3 V (Proc.devRef .tc main_v181) = headMat4 x20 := by
  after_reads_simp
  rw [h]
  rfl

/-- The third layer's output as the normalization with the rectifier, the scale and shift folded and the bias moved
    past the second product. -/
theorem sage_norm (hb : ∀ j, ∃ r : ℝ, x14 j = (r : EReal)) (hγ : ∀ j, ∃ r : ℝ, x16 j = (r : EReal)) :
    bnElu (M := 50000) (K := 128)
        (plus (s := S50000x128) (gemm (M := 50000) (K := 128) (N := 128) (val_main_v160 (F := Ideal) x0 x1 x3 x4 x5 x6 x7 x8 x9 x10 x11 x12) x13)
          (val_main_v165 (F := Ideal) x0 x1 x3 x4 x5 x6 x7 x8 x9 x10 x11 x12 x15))
        (scaleRow bcast_S_S128 bcast_S128_S1x128_1 x16) (shiftRow bcast_S_S128 bcast_S128_S1x128_1 x14 x16 x17)
      = val_main_v177 (F := Ideal) x0 x1 x3 x4 x5 x6 x7 x8 x9 x10 x11 x12 x13 x14 x15 x16 x17 := by
  have hp : gemm (M := 50000) (K := 128) (N := 128) (val_main_v160 (F := Ideal) x0 x1 x3 x4 x5 x6 x7 x8 x9 x10 x11 x12) x13
      = val_main_v161 (F := Ideal) x0 x1 x3 x4 x5 x6 x7 x8 x9 x10 x11 x12 x13 := (dotGeneral_eq_gemm (M := 50000) (K := 128) (N := 128) none _ _).symm
  rw [hp]
  refine (bnElu_eq_ref (M := 50000) (N := 128) bcast_S_S128 Cert.ReferenceIdeal.Gen.bcast_S_S50000x128 bcast_S128_S1x128_1
    Cert.ReferenceIdeal.Gen.bcast_S1x128_S50000x128_0_1 _ x14 x16 x17 hb hγ).trans ?_
  have hn : normRef (M := 50000) (N := 128) bcast_S_S128 bcast_S128_S1x128_1 Cert.ReferenceIdeal.Gen.bcast_S1x128_S50000x128_0_1
      (plus (s := S50000x128) (val_main_v161 (F := Ideal) x0 x1 x3 x4 x5 x6 x7 x8 x9 x10 x11 x12 x13)
        (val_main_v165 (F := Ideal) x0 x1 x3 x4 x5 x6 x7 x8 x9 x10 x11 x12 x15)) x14 x16 x17
      = val_main_v176 (F := Ideal) x0 x1 x3 x4 x5 x6 x7 x8 x9 x10 x11 x12 x13 x14 x15 x16 x17 := by
    unfold val_main_v176 val_main_v173 val_main_v166 val_main_v164
    generalize val_main_v161 (F := Ideal) x0 x1 x3 x4 x5 x6 x7 x8 x9 x10 x11 x12 x13 = g
    generalize val_main_v165 (F := Ideal) x0 x1 x3 x4 x5 x6 x7 x8 x9 x10 x11 x12 x15 = z
    have hc : addf (F := Ideal) (s := S50000x128) (φ := .f32) (plus (s := S50000x128) g z) (val_main_v163 (F := Ideal) x14)
        = addf (F := Ideal) (s := S50000x128) (φ := .f32) (addf (F := Ideal) (s := S50000x128) (φ := .f32) g (val_main_v163 (F := Ideal) x14)) z :=
      funext fun i => add_right_comm (G := EReal) (g i) (z i) (val_main_v163 (F := Ideal) x14 i)
    exact congrArg (fun q : FVec Ideal S50000x128 .f32 => addf (F := Ideal) (s := S50000x128) (φ := .f32)
      (mulf (F := Ideal) (s := S50000x128) (φ := .f32) q (val_main_v172 (F := Ideal) x16)) (val_main_v175 (F := Ideal) x17)) hc
  rw [hn]
  unfold val_main_v177 val_main_call4_v1 val_main_call4_v7 val_main_call4_v5 val_main_call4_v4 val_main_call4_v3
  generalize val_main_v176 (F := Ideal) x0 x1 x3 x4 x5 x6 x7 x8 x9 x10 x11 x12 x13 x14 x15 x16 x17 = y
  rfl

end Cert.KernelIdeal.Stretch
-- ==== Proof.StretchGat2.lean ====
/- The host operations between the fourth and the fifth launch: the attention weights of the second graph attention,
   their weighted sum over the edges and the mean over the heads, read at the reference's values. -/
module

public import proofs.«01_k».proof.Proof.Gen.KernelIdeal.Frame
public import proofs.«01_k».proof.Proof.Gen.ReferenceIdeal.Read
public import proofs.«01_k».proof.Proof.StretchSage
public import Idealize.ShloMosaic.Lib.StableHlo.RunRead

@[expose] public section

set_option maxRecDepth 16384

noncomputable section

namespace Cert.KernelIdeal.Stretch

open Idealize.ShloMosaic Idealize.ShloMosaic.TcCoe Idealize.ShloMosaic.ValueIdx
open Cert.KernelIdeal Cert.KernelIdeal.Gen Cert.ReferenceIdeal.Read Cert.Layers Cert.Spec Cert.Arith

variable (V : Valuation τ sig (Elt Ideal))
variable {x0 : (⟨S50000x15, .f32⟩ : BufTy).Contents (Elt Ideal)} {x1 : (⟨S2x800000, .i32⟩ : BufTy).Contents (Elt Ideal)}
  {x3 : (⟨S15x1024, .f32⟩ : BufTy).Contents (Elt Ideal)} {x4 x5 : (⟨S8x128, .f32⟩ : BufTy).Contents (Elt Ideal)}
  {x6 x7 x8 : (⟨S1024, .f32⟩ : BufTy).Contents (Elt Ideal)} {x9 : (⟨S1024x128, .f32⟩ : BufTy).Contents (Elt Ideal)}
  {x10 x11 x12 : (⟨S128, .f32⟩ : BufTy).Contents (Elt Ideal)}
  {x13 : (⟨S128x128, .f32⟩ : BufTy).Contents (Elt Ideal)} {x14 : (⟨S128, .f32⟩ : BufTy).Contents (Elt Ideal)}
  {x15 : (⟨S128x128, .f32⟩ : BufTy).Contents (Elt Ideal)} {x16 x17 : (⟨S128, .f32⟩ : BufTy).Contents (Elt Ideal)}
  {x18 : (⟨S128x512, .f32⟩ : BufTy).Contents (Elt Ideal)} {x19 x20 : (⟨S4x128, .f32⟩ : BufTy).Contents (Elt Ideal)}
  {x21 x22 x23 : (⟨S128, .f32⟩ : BufTy).Contents (Elt Ideal)}

/-- The fourth launch's product is the reference's. -/
theorem gat2_lin : gemm (M := 50000) (K := 128) (N := 512) (val_main_v177 (F := Ideal) x0 x1 x3 x4 x5 x6 x7 x8 x9 x10 x11 x12 x13 x14 x15 x16 x17) x18
    = val_main_v187 (F := Ideal) x0 x1 x3 x4 x5 x6 x7 x8 x9 x10 x11 x12 x13 x14 x15 x16 x17 x18 :=
  (dotGeneral_eq_gemm (M := 50000) (K := 128) (N := 512) none _ _).symm

/-- The projection onto the source vectors is the reference's sum over the channels. -/
theorem gat2_projSrc : gemm (M := 50000) (K := 512) (N := 4) (val_main_v187 (F := Ideal) x0 x1 x3 x4 x5 x6 x7 x8 x9 x10 x11 x12 x13 x14 x15 x16 x17 x18) (headMat4 x19)
    = val_main_v192 (F := Ideal) x0 x1 x3 x4 x5 x6 x7 x8 x9 x10 x11 x12 x13 x14 x15 x16 x17 x18 x19 := by
  funext i
  rw [val_main_v192_apply, gemm_headMat (M := 50000) (H := 4) (C := 128) (P := 512) rfl (by norm_num) _ _ _ _ _ _ _ _
    shapeCasts_S50000x512_S50000x4x128 Cert.ReferenceIdeal.Gen.bcast_S4x128_S1x4x128_1_2 Cert.ReferenceIdeal.Gen.bcast_S1x4x128_S50000x4x128_0_1_2]
  rw [val_main_cst_33_apply, ofBits_zero, zero_add]
  refine Finset.sum_congr rfl fun k _ => ?_
  unfold val_main_v191 val_main_v188
  generalize val_main_v187 (F := Ideal) x0 x1 x3 x4 x5 x6 x7 x8 x9 x10 x11 x12 x13 x14 x15 x16 x17 x18 = h
  refine congrArg (mulf (F := Ideal) (s := Cert.ReferenceIdeal.S50000x4x128) (φ := .f32) (shapeCast _ h shapeCasts_S50000x512_S50000x4x128)
    (val_main_v190 (F := Ideal) x19)) (funext fun a => ?_)
  match a with
  | ⟨0, _⟩ => rfl
  | ⟨1, _⟩ => rfl
  | ⟨2, _⟩ => rfl

/-- The projection onto the destination vectors is the reference's sum over the channels. -/
theorem gat2_projDst : gemm (M := 50000) (K := 512) (N := 4) (val_main_v187 (F := Ideal) x0 x1 x3 x4 x5 x6 x7 x8 x9 x10 x11 x12 x13 x14 x15 x16 x17 x18) (headMat4 x20)
    = val_main_v196 (F := Ideal) x0 x1 x3 x4 x5 x6 x7 x8 x9 x10 x11 x12 x13 x14 x15 x16 x17 x18 x20 := by
  funext i
  rw [val_main_v196_apply, gemm_headMat (M := 50000) (H := 4) (C := 128) (P := 512) rfl (by norm_num) _ _ _ _ _ _ _ _
    shapeCasts_S50000x512_S50000x4x128 Cert.ReferenceIdeal.Gen.bcast_S4x128_S1x4x128_1_2 Cert.ReferenceIdeal.Gen.bcast_S1x4x128_S50000x4x128_0_1_2]
  rw [val_main_cst_34_apply, ofBits_zero, zero_add]
  refine Finset.sum_congr rfl fun k _ => ?_
  unfold val_main_v195 val_main_v188
  generalize val_main_v187 (F := Ideal) x0 x1 x3 x4 x5 x6 x7 x8 x9 x10 x11 x12 x13 x14 x15 x16 x17 x18 = h
  refine congrArg (mulf (F := Ideal) (s := Cert.ReferenceIdeal.S50000x4x128) (φ := .f32) (shapeCast _ h shapeCasts_S50000x512_S50000x4x128)
    (val_main_v194 (F := Ideal) x20)) (funext fun a => ?_)
  match a with
  | ⟨0, _⟩ => rfl
  | ⟨1, _⟩ => rfl
  | ⟨2, _⟩ => rfl

/-- The sum of the two attention terms of each edge. -/
theorem gat2_logit (h5 : V (Proc.devRef .tc main_v5) = val_main_v6 (F := Ideal) x1) (h6 : V (Proc.devRef .tc main_v6) = val_main_v8 (F := Ideal) x1)
    (h1 : V (Proc.devRef .tc main_v182_1) = val_main_v192 (F := Ideal) x0 x1 x3 x4 x5 x6 x7 x8 x9 x10 x11 x12 x13 x14 x15 x16 x17 x18 x19)
    (h2 : V (Proc.devRef .tc main_v182_2) = val_main_v196 (F := Ideal) x0 x1 x3 x4 x5 x6 x7 x8 x9 x10 x11 x12 x13 x14 x15 x16 x17 x18 x20) :
    StableHlo.after hostOps4 V (Proc.devRef .tc main_v197)
      = val_main_v211 (F := Ideal) x0 x1 x3 x4 x5 x6 x7 x8 x9 x10 x11 x12 x13 x14 x15 x16 x17 x18 x19 x20 := by
  after_reads_simp
  rw [h5, h6, h1, h2, ← src_third, ← dst_third]
  unfold val_main_v211 val_main_v203 val_main_v210
  rfl

/-- The slope below zero. -/
theorem gat2_slope : StableHlo.after hostOps4 V (Proc.devRef .tc main_cst_37) = val_main_cst_39 (F := Ideal) := by
  after_reads_simp
  rfl

/-- The leaky rectifier of the sums. -/
theorem gat2_leaky (h : V (Proc.devRef .tc main_v197) = val_main_v211 (F := Ideal) x0 x1 x3 x4 x5 x6 x7 x8 x9 x10 x11 x12 x13 x14 x15 x16 x17 x18 x19 x20)
    (hs : V (Proc.devRef .tc main_cst_37) = val_main_cst_39 (F := Ideal)) :
    StableHlo.after hostOps4_1 V (Proc.devRef .tc main_v198)
      = val_main_v212 (F := Ideal) x0 x1 x3 x4 x5 x6 x7 x8 x9 x10 x11 x12 x13 x14 x15 x16 x17 x18 x19 x20 := by
  after_reads_simp
  simp only [StableHlo.TRef.ofBuf_toBuf]
  rw [h, hs]
  unfold val_main_v212 val_main_call5_v1 val_main_call5_v4
  generalize val_main_v211 (F := Ideal) x0 x1 x3 x4 x5 x6 x7 x8 x9 x10 x11 x12 x13 x14 x15 x16 x17 x18 x19 x20 = w
  rfl

/-- The attention's sums in the reference's spelling, from the rows `A` gathered per edge and the rectified sums `a`. -/
theorem gat2_core (A : FVec Ideal S850000x4x128 .f32) (a : FVec Ideal S850000x4 .f32) :
    (Host.divf (Host.scatterAdd scatter_S50000x4x128_S850000x1_S850000x4x128_12_0_0_1 (val_main_v237 (F := Ideal)) (val_main_v238 (F := Ideal) x1)
          (mulf A (broadcastInDim S850000x4x128 ![0, 1, 2] bcast_S850000x4x1_S850000x4x128_0_1_2
              (broadcastInDim S850000x4x1 ![0, 1] bcast_S850000x4_S850000x4x1_0_1 (Host.exp a)))))
        (broadcastInDim S50000x4x128 ![0, 1, 2] bcast_S50000x4x1_S50000x4x128_0_1_2
          (broadcastInDim S50000x4x1 ![0, 1] bcast_S50000x4_S50000x4x1_0_1
            (addf (Host.scatterAdd scatter_S50000x4_S850000x1_S850000x4_1_0_0_1 (val_main_v214 (F := Ideal)) (val_main_v215 (F := Ideal) x1) (Host.exp a))
              (broadcastInDim S50000x4 ![] bcast_S_S50000x4 (constant S_ .f32 0x24E69595#32))))) : FVec Ideal S50000x4x128 .f32)
      = Host.scatterAdd scatter_S50000x4x128_S850000x1_S850000x4x128_12_0_0_1 (val_main_v237 (F := Ideal)) (val_main_v238 (F := Ideal) x1)
          (mulf A (broadcastInDim S850000x4x128 ![0, 1, 2] bcast_S850000x4x1_S850000x4x128_0_1_2
              (broadcastInDim S850000x4x1 ![0, 1] bcast_S850000x4_S850000x4x1_0_1 (Host.divf (Host.exp a)
                (addf (Host.gather Cert.ReferenceIdeal.gather_S50000x4_S850000x1_S850000x4_1_0_n_n_0_1_14
                    (Host.scatterAdd scatter_S50000x4_S850000x1_S850000x4_1_0_0_1 (val_main_v214 (F := Ideal)) (val_main_v215 (F := Ideal) x1) (Host.exp a))
                    (val_main_v222 (F := Ideal) x1)) (val_main_v224 (F := Ideal))))))) :=
  attention (N := 50000) (H := 4) (C := 128) (E := 850000) scatter_S50000x4x128_S850000x1_S850000x4x128_12_0_0_1.wf
    Cert.ReferenceIdeal.gather_S50000x4_S850000x1_S850000x4_1_0_n_n_0_1_14.wf scatter_S50000x4_S850000x1_S850000x4_1_0_0_1
    bcast_S_S50000x4 bcast_S_S50000x4x128 bcast_S_S850000 Cert.ReferenceIdeal.Gen.bcast_S_S850000x4 bcast_S850000_S850000x1_0 bcast_S850000x4_S850000x4x1_0_1
    bcast_S850000x4x1_S850000x4x128_0_1_2 bcast_S50000x4_S50000x4x1_0_1 bcast_S50000x4x1_S50000x4x128_0_1_2
    (val_main_v186 (F := Ideal) x1) 50000#32 A a

/-- The second attention's sums, averaged over the heads. -/
theorem gat2_sum (h5 : V (Proc.devRef .tc main_v5) = val_main_v6 (F := Ideal) x1) (h6 : V (Proc.devRef .tc main_v6) = val_main_v8 (F := Ideal) x1)
    (h0 : V (Proc.devRef .tc main_v182_0) = val_main_v187 (F := Ideal) x0 x1 x3 x4 x5 x6 x7 x8 x9 x10 x11 x12 x13 x14 x15 x16 x17 x18)
    (h : V (Proc.devRef .tc main_v198) = val_main_v212 (F := Ideal) x0 x1 x3 x4 x5 x6 x7 x8 x9 x10 x11 x12 x13 x14 x15 x16 x17 x18 x19 x20) :
    StableHlo.after hostOps4_2 V (Proc.devRef .tc main_v224)
      = val_main_v242 (F := Ideal) x0 x1 x3 x4 x5 x6 x7 x8 x9 x10 x11 x12 x13 x14 x15 x16 x17 x18 x19 x20 := by
  after_reads_simp
  rw [h5, h6, h0, h, ← src_third, ← dst_third]
  unfold val_main_v242 val_main_v240 val_main_v239 val_main_v236 val_main_v235 val_main_v234 val_main_v226 val_main_v225 val_main_v223 val_main_v216
    val_main_v213 val_main_v233 val_main_v188
  generalize val_main_v187 (F := Ideal) x0 x1 x3 x4 x5 x6 x7 x8 x9 x10 x11 x12 x13 x14 x15 x16 x17 x18 = g
  generalize val_main_v212 (F := Ideal) x0 x1 x3 x4 x5 x6 x7 x8 x9 x10 x11 x12 x13 x14 x15 x16 x17 x18 x19 x20 = a
  exact congrArg (fun q : FVec Ideal S50000x4x128 .f32 => Host.divf (Host.reduceAdd q (constant (F := Ideal) S_ .f32 0x00000000#32) reducesTo_S50000x4x128_S50000x128_d1 h_S_)
    (broadcastInDim S50000x128 ![] bcast_S_S50000x128 (constant (F := Ideal) S_ .f32 0x40800000#32))) (gat2_core (x1 := x1) _ a)

/-- The fourth normalization's scale. -/
theorem gat2_scale (h8 : V (Proc.devRef .tc main_v8) = invRoot) (h : V (Proc.devRef .tc main_arg22) = x22) :
    StableHlo.after hostOps4_2 V (Proc.devRef .tc main_v227) = scaleRow bcast_S_S128 bcast_S128_S1x128_1 x22 := by
  after_reads_simp
  rw [h8, h]
  rfl

/-- The fourth normalization's shift. -/
theorem gat2_shift (h8 : V (Proc.devRef .tc main_v8) = invRoot)
    (h : V (Proc.devRef .tc main_arg21) = x21) (h' : V (Proc.devRef .tc main_arg22) = x22) (h'' : V (Proc.devRef .tc main_arg23) = x23) :
    StableHlo.after hostOps4_2 V (Proc.devRef .tc main_v232) = shiftRow bcast_S_S128 bcast_S128_S1x128_1 x21 x22 x23 := by
  after_reads_simp
  rw [h8, h, h', h'']
  rfl

/-- The last layer's output as the normalization with the rectifier, the scale and shift folded. -/
theorem gat2_norm (hb : ∀ j, ∃ r : ℝ, x21 j = (r : EReal)) (hγ : ∀ j, ∃ r : ℝ, x22 j = (r : EReal)) :
    bnElu (M := 50000) (K := 128) (val_main_v242 (F := Ideal) x0 x1 x3 x4 x5 x6 x7 x8 x9 x10 x11 x12 x13 x14 x15 x16 x17 x18 x19 x20)
        (scaleRow bcast_S_S128 bcast_S128_S1x128_1 x22) (shiftRow bcast_S_S128 bcast_S128_S1x128_1 x21 x22 x23)
      = val_main_v256 (F := Ideal) x0 x1 x3 x4 x5 x6 x7 x8 x9 x10 x11 x12 x13 x14 x15 x16 x17 x18 x19 x20 x21 x22 x23 := by
  refine (bnElu_eq_ref (M := 50000) (N := 128) bcast_S_S128 Cert.ReferenceIdeal.Gen.bcast_S_S50000x128 bcast_S128_S1x128_1
    Cert.ReferenceIdeal.Gen.bcast_S1x128_S50000x128_0_1 _ x21 x22 x23 hb hγ).trans ?_
  have hn : normRef (M := 50000) (N := 128) bcast_S_S128 bcast_S128_S1x128_1 Cert.ReferenceIdeal.Gen.bcast_S1x128_S50000x128_0_1
      (val_main_v242 (F := Ideal) x0 x1 x3 x4 x5 x6 x7 x8 x9 x10 x11 x12 x13 x14 x15 x16 x17 x18 x19 x20) x21 x22 x23
      = val_main_v255 (F := Ideal) x0 x1 x3 x4 x5 x6 x7 x8 x9 x10 x11 x12 x13 x14 x15 x16 x17 x18 x19 x20 x21 x22 x23 := by
    unfold val_main_v255 val_main_v252 val_main_v245
    generalize val_main_v242 (F := Ideal) x0 x1 x3 x4 x5 x6 x7 x8 x9 x10 x11 x12 x13 x14 x15 x16 x17 x18 x19 x20 = g
    rfl
  rw [hn]
  unfold val_main_v256 val_main_call6_v1 val_main_call6_v7 val_main_call6_v5 val_main_call6_v4 val_main_call6_v3
  generalize val_main_v255 (F := Ideal) x0 x1 x3 x4 x5 x6 x7 x8 x9 x10 x11 x12 x13 x14 x15 x16 x17 x18 x19 x20 x21 x22 x23 = y
  rfl

end Cert.KernelIdeal.Stretch
-- ==== Proof.StretchPool.lean ====
/- The pooling: the host operations between the fifth and the sixth launch, and the sixth launch's head, read at the
   reference's values. -/
module

public import proofs.«01_k».proof.Proof.Gen.KernelIdeal.Frame
public import proofs.«01_k».proof.Proof.Gen.ReferenceIdeal.Read
public import proofs.«01_k».proof.Proof.StretchGat2
public import Idealize.ShloMosaic.Lib.StableHlo.RunRead

@[expose] public section

set_option maxRecDepth 16384

noncomputable section

namespace Cert.KernelIdeal.Stretch

open Idealize.ShloMosaic Idealize.ShloMosaic.TcCoe Idealize.ShloMosaic.ValueIdx
open Cert.KernelIdeal Cert.KernelIdeal.Gen Cert.ReferenceIdeal.Read Cert.Layers Cert.Spec Cert.Arith

variable (V : Valuation τ sig (Elt Ideal))
variable {x0 : (⟨S50000x15, .f32⟩ : BufTy).Contents (Elt Ideal)} {x1 : (⟨S2x800000, .i32⟩ : BufTy).Contents (Elt Ideal)}
  {x3 : (⟨S15x1024, .f32⟩ : BufTy).Contents (Elt Ideal)} {x4 x5 : (⟨S8x128, .f32⟩ : BufTy).Contents (Elt Ideal)}
  {x6 x7 x8 : (⟨S1024, .f32⟩ : BufTy).Contents (Elt Ideal)} {x9 : (⟨S1024x128, .f32⟩ : BufTy).Contents (Elt Ideal)}
  {x10 x11 x12 : (⟨S128, .f32⟩ : BufTy).Contents (Elt Ideal)}
  {x2 : (⟨S50000, .i32⟩ : BufTy).Contents (Elt Ideal)} {x13 : (⟨S128x128, .f32⟩ : BufTy).Contents (Elt Ideal)} {x14 : (⟨S128, .f32⟩ : BufTy).Contents (Elt Ideal)}
  {x15 : (⟨S128x128, .f32⟩ : BufTy).Contents (Elt Ideal)} {x16 x17 : (⟨S128, .f32⟩ : BufTy).Contents (Elt Ideal)}
  {x18 : (⟨S128x512, .f32⟩ : BufTy).Contents (Elt Ideal)} {x19 x20 : (⟨S4x128, .f32⟩ : BufTy).Contents (Elt Ideal)}
  {x21 x22 x23 : (⟨S128, .f32⟩ : BufTy).Contents (Elt Ideal)}
  {x24 : (⟨S128x128, .f32⟩ : BufTy).Contents (Elt Ideal)} {x25 : (⟨S128, .f32⟩ : BufTy).Contents (Elt Ideal)}
  {x26 : (⟨S128x64, .f32⟩ : BufTy).Contents (Elt Ideal)} {x27 : (⟨S64, .f32⟩ : BufTy).Contents (Elt Ideal)}

/-- The sums over each graph's nodes. -/
theorem pool_sum (h2 : V (Proc.devRef .tc main_arg2) = x2)
    (h : V (Proc.devRef .tc main_v233) = val_main_v256 (F := Ideal) x0 x1 x3 x4 x5 x6 x7 x8 x9 x10 x11 x12 x13 x14 x15 x16 x17 x18 x19 x20 x21 x22 x23) :
    StableHlo.after hostOps5 V (Proc.devRef .tc main_v236)
      = val_main_v259 (F := Ideal) x0 x1 x2 x3 x4 x5 x6 x7 x8 x9 x10 x11 x12 x13 x14 x15 x16 x17 x18 x19 x20 x21 x22 x23 := by
  after_reads_simp
  rw [h2, h]
  unfold val_main_v259
  generalize val_main_v256 (F := Ideal) x0 x1 x3 x4 x5 x6 x7 x8 x9 x10 x11 x12 x13 x14 x15 x16 x17 x18 x19 x20 x21 x22 x23 = g
  rfl

/-- The numbers of each graph's nodes, as a column. -/
theorem pool_count (h2 : V (Proc.devRef .tc main_arg2) = x2) :
    StableHlo.after hostOps5 V (Proc.devRef .tc main_v241)
      = (broadcastInDim S1024x1 ![0] bcast_S1024_S1024x1_0 (val_main_v263 (F := Ideal) x2) : FVec Ideal S1024x1 .f32) := by
  after_reads_simp
  rw [h2]
  rfl

/-- The head's first bias, as a row. -/
theorem pool_bias1 (h : V (Proc.devRef .tc main_arg25) = x25) :
    StableHlo.after hostOps5 V (Proc.devRef .tc main_v242) = val_main_v270 (F := Ideal) x25 := by
  after_reads_simp
  rw [h]
  rfl

/-- The head's second bias, as a row. -/
theorem pool_bias2 (h : V (Proc.devRef .tc main_arg27) = x27) :
    StableHlo.after hostOps5 V (Proc.devRef .tc main_v243) = val_main_v275 (F := Ideal) x27 := by
  after_reads_simp
  rw [h]
  rfl

/-- A column broadcast over all columns reads its row. -/
theorem broadcast_col {M K : Nat} {α : Type} (v : (⟨2, ![M, 1]⟩ : Shape).Idx → α) (h : (⟨2, ![M, 1]⟩ : Shape).Broadcasts ⟨2, ![M, K]⟩)
    (i : (⟨2, ![M, K]⟩ : Shape).Idx) : broadcastTo ⟨2, ![M, K]⟩ v h i = v (ix2 (i 0) 0) := by
  obtain ⟨r, c, rfl⟩ : ∃ r c, i = ix2 r c := ⟨_, _, eq_ix2 i⟩
  exact broadcastTo_apply v h (ix2 r c) (ix2 r 0) fun ax => match ax with
    | ⟨0, _⟩ => val_unit r
    | ⟨1, _⟩ => rfl

/-- A number at least one is not zero. -/
theorem max_one_ne_zero (y : EReal) : max y 1 ≠ 0 := ne_of_gt (lt_of_lt_of_le zero_lt_one (le_max_right y 1))

/-- Multiplying the sums by the reciprocal of the larger of the count and one is dividing by it. -/
theorem pool_mean (s : FVec Ideal S1024x128 .f32) (n : FVec Ideal S1024 .f32) :
    k5_pay1 (F := Ideal) s (broadcastInDim S1024x1 ![0] bcast_S1024_S1024x1_0 n)
      = Host.divf s (broadcastInDim S1024x128 ![0, 1] Cert.ReferenceIdeal.Gen.bcast_S1024x1_S1024x128_0_1 (broadcastInDim S1024x1 ![0] bcast_S1024_S1024x1_0
          (maximumf n (broadcastInDim S1024 ![] bcast_S_S1024 (constant (F := Ideal) S_ .f32 0x3F800000#32))))) := by
  unfold k5_pay1
  simp only [shapeCast_self]
  funext i
  show (s i * broadcastTo S1024x128 _ broadcasts_S1024x1_S1024x128 i : EReal)
    = Ideal.div (s i) _
  rw [broadcast_col (M := 1024) (K := 128), bcCol (M := 1024) (N := 128), bcCol1 (M := 1024)]
  show (s i * Ideal.div (FloatOps.ofBits (F := Ideal) .f32 0x3F800000#32)
      (max (broadcastInDim S1024x1 ![0] bcast_S1024_S1024x1_0 n (ix2 (i 0) 0)) (FloatOps.ofBits (F := Ideal) .f32 0x3F800000#32)) : EReal)
    = Ideal.div (s i) (max (n (ix1 (i 0))) (broadcastInDim S1024 ![] bcast_S_S1024 (constant (F := Ideal) S_ .f32 0x3F800000#32) (ix1 (i 0))))
  rw [bcCol1 (M := 1024), bc0]
  show (s i * Ideal.div (FloatOps.ofBits (F := Ideal) .f32 0x3F800000#32) (max (n (ix1 (i 0))) (FloatOps.ofBits (F := Ideal) .f32 0x3F800000#32)) : EReal)
    = Ideal.div (s i) (max (n (ix1 (i 0))) (FloatOps.ofBits (F := Ideal) .f32 0x3F800000#32))
  rw [ofBits_one, mul_div_one _ _ (max_one_ne_zero _)]

/-- The sixth launch's means are the reference's. -/
theorem pool_out1 : k5_pay1 (F := Ideal) (val_main_v259 (F := Ideal) x0 x1 x2 x3 x4 x5 x6 x7 x8 x9 x10 x11 x12 x13 x14 x15 x16 x17 x18 x19 x20 x21 x22 x23)
      (broadcastInDim S1024x1 ![0] bcast_S1024_S1024x1_0 (val_main_v263 (F := Ideal) x2))
    = val_main_v268 (F := Ideal) x0 x1 x2 x3 x4 x5 x6 x7 x8 x9 x10 x11 x12 x13 x14 x15 x16 x17 x18 x19 x20 x21 x22 x23 := by
  unfold val_main_v268
  exact pool_mean _ (val_main_v263 (F := Ideal) x2)

/-- The head on the means `p`: two products, each with its bias, the rectifier between. -/
theorem head_eq (p : FVec Ideal S1024x128 .f32) (w : FVec Ideal S128x128 .f32) (b : FVec Ideal S1x128 .f32) (w' : FVec Ideal S128x64 .f32) (b' : FVec Ideal S1x64 .f32)
    (s : FVec Ideal S1024x128 .f32) (n : FVec Ideal S1024x1 .f32) (hp : k5_pay1 (F := Ideal) s n = p) :
    k5_pay2 (F := Ideal) s n w b w' b'
      = addf (Host.dotGeneral (DotDims.plain 1024 128 64) none
          (maximumf (addf (Host.dotGeneral (DotDims.plain 1024 128 128) none p w) (broadcastInDim S1024x128 ![0, 1] Cert.ReferenceIdeal.Gen.bcast_S1x128_S1024x128_0_1 b))
            (broadcastInDim S1024x128 ![] bcast_S_S1024x128 (constant (F := Ideal) S_ .f32 0x00000000#32))) w')
          (broadcastInDim S1024x64 ![0, 1] Cert.ReferenceIdeal.Gen.bcast_S1x64_S1024x64_0_1 b') := by
  unfold k5_pay2
  simp only [shapeCast_self, hp]
  have e1 : broadcastTo S1024x128 b broadcasts_S1x128_S1024x128 = broadcastInDim S1024x128 ![0, 1] Cert.ReferenceIdeal.Gen.bcast_S1x128_S1024x128_0_1 b :=
    funext fun i => (broadcast_row (M := 1024) (K := 128) b _ i).trans (bcRow (M := 1024) (N := 128) _ b i).symm
  have e2 : broadcastTo S1024x64 b' broadcasts_S1x64_S1024x64 = broadcastInDim S1024x64 ![0, 1] Cert.ReferenceIdeal.Gen.bcast_S1x64_S1024x64_0_1 b' :=
    funext fun i => (broadcast_row (M := 1024) (K := 64) b' _ i).trans (bcRow (M := 1024) (N := 64) _ b' i).symm
  have e3 : (broadcast S1024x128 (Scalar.ofBits (F := Ideal) .f32 0x00000000#32) : FVec Ideal S1024x128 .f32)
      = broadcastInDim S1024x128 ![] bcast_S_S1024x128 (constant (F := Ideal) S_ .f32 0x00000000#32) := funext fun i => (bc0 bcast_S_S1024x128 (constant (F := Ideal) S_ .f32 0x00000000#32) i).symm
  have e4 : matmul dot_S1024x128_S128x128_S1024x128_1_0_0_1_n_n none p w (constant (F := Ideal) S1024x128 .f32 0x00000000#32)
      = Host.dotGeneral (DotDims.plain 1024 128 128) none p w := (matmul_eq_gemm none p w).trans (dotGeneral_eq_gemm none p w).symm
  rw [e1, e2, e3, e4]
  exact congrArg (fun q : FVec Ideal S1024x64 .f32 => addf q (broadcastInDim S1024x64 ![0, 1] Cert.ReferenceIdeal.Gen.bcast_S1x64_S1024x64_0_1 b'))
    ((matmul_eq_gemm none _ w').trans (dotGeneral_eq_gemm none _ w').symm)

/-- The sixth launch's logits are the reference's. -/
theorem pool_out2 : k5_pay2 (F := Ideal) (val_main_v259 (F := Ideal) x0 x1 x2 x3 x4 x5 x6 x7 x8 x9 x10 x11 x12 x13 x14 x15 x16 x17 x18 x19 x20 x21 x22 x23)
      (broadcastInDim S1024x1 ![0] bcast_S1024_S1024x1_0 (val_main_v263 (F := Ideal) x2)) x24 (val_main_v270 (F := Ideal) x25) x26 (val_main_v275 (F := Ideal) x27)
    = val_main_v277 (F := Ideal) x0 x1 x2 x3 x4 x5 x6 x7 x8 x9 x10 x11 x12 x13 x14 x15 x16 x17 x18 x19 x20 x21 x22 x23 x24 x25 x26 x27 := by
  refine (head_eq _ x24 (val_main_v270 (F := Ideal) x25) x26 (val_main_v275 (F := Ideal) x27) _ _
    (pool_out1 (x0 := x0) (x1 := x1) (x2 := x2) (x3 := x3) (x4 := x4) (x5 := x5) (x6 := x6) (x7 := x7) (x8 := x8) (x9 := x9) (x10 := x10) (x11 := x11)
      (x12 := x12) (x13 := x13) (x14 := x14) (x15 := x15) (x16 := x16) (x17 := x17) (x18 := x18) (x19 := x19) (x20 := x20) (x21 := x21) (x22 := x22) (x23 := x23))).trans ?_
  unfold val_main_v277 val_main_v274 val_main_v273 val_main_v272 val_main_v269
  generalize val_main_v268 (F := Ideal) x0 x1 x2 x3 x4 x5 x6 x7 x8 x9 x10 x11 x12 x13 x14 x15 x16 x17 x18 x19 x20 x21 x22 x23 = p
  rfl

end Cert.KernelIdeal.Stretch
-- ==== Proof.Stages.lean ====
/- The kernel's buffers from stage to stage: at each of its stages (a stretch of host operations or a grid region) the
   buffers that later stages read hold the reference's intermediate values at the same arguments. `graph_K` carries the
   edge lists and the normalization's constant, `stageK_…` states one buffer after the `K`th stage. -/
module

public import proofs.«01_k».proof.Proof.Regions
public import proofs.«01_k».proof.Proof.StretchGat1
public import proofs.«01_k».proof.Proof.StretchPool

@[expose] public section

set_option maxRecDepth 16384

noncomputable section

namespace Cert.KernelIdeal.Stages

open Idealize.ShloMosaic Idealize.ShloMosaic.TcCoe Idealize.ShloMosaic.ValueIdx
open Cert.KernelIdeal Cert.KernelIdeal.Gen Cert.KernelIdeal.Regions Cert.KernelIdeal.Stretch
open Cert.ReferenceIdeal.Read Cert.Layers Cert.Spec Cert.Arith

variable (m : (ℓ : Loc nD τ sig) → Buf (Elt Ideal) ℓ) (ρ : Dev nD → PrngReg) (c : Dev nD)

/-- The launch memory holds `x0 … x27` at the argument arrays, and the arrays the precondition names are real-valued. -/
structure Inputs (x0 : (⟨S50000x15, .f32⟩ : BufTy).Contents (Elt Ideal)) (x1 : (⟨S2x800000, .i32⟩ : BufTy).Contents (Elt Ideal))
    (x2 : (⟨S50000, .i32⟩ : BufTy).Contents (Elt Ideal)) (x3 : (⟨S15x1024, .f32⟩ : BufTy).Contents (Elt Ideal))
    (x4 x5 : (⟨S8x128, .f32⟩ : BufTy).Contents (Elt Ideal)) (x6 x7 x8 : (⟨S1024, .f32⟩ : BufTy).Contents (Elt Ideal))
    (x9 : (⟨S1024x128, .f32⟩ : BufTy).Contents (Elt Ideal)) (x10 x11 x12 : (⟨S128, .f32⟩ : BufTy).Contents (Elt Ideal))
    (x13 : (⟨S128x128, .f32⟩ : BufTy).Contents (Elt Ideal)) (x14 : (⟨S128, .f32⟩ : BufTy).Contents (Elt Ideal))
    (x15 : (⟨S128x128, .f32⟩ : BufTy).Contents (Elt Ideal)) (x16 x17 : (⟨S128, .f32⟩ : BufTy).Contents (Elt Ideal))
    (x18 : (⟨S128x512, .f32⟩ : BufTy).Contents (Elt Ideal)) (x19 x20 : (⟨S4x128, .f32⟩ : BufTy).Contents (Elt Ideal))
    (x21 x22 x23 : (⟨S128, .f32⟩ : BufTy).Contents (Elt Ideal)) (x24 : (⟨S128x128, .f32⟩ : BufTy).Contents (Elt Ideal))
    (x25 : (⟨S128, .f32⟩ : BufTy).Contents (Elt Ideal)) (x26 : (⟨S128x64, .f32⟩ : BufTy).Contents (Elt Ideal))
    (x27 : (⟨S64, .f32⟩ : BufTy).Contents (Elt Ideal)) : Prop where
  e0 : m ((c : Thread nD τ).loc main_arg0) = x0
  e1 : m ((c : Thread nD τ).loc main_arg1) = x1
  e2 : m ((c : Thread nD τ).loc main_arg2) = x2
  e3 : m ((c : Thread nD τ).loc main_arg3) = x3
  e4 : m ((c : Thread nD τ).loc main_arg4) = x4
  e5 : m ((c : Thread nD τ).loc main_arg5) = x5
  e6 : m ((c : Thread nD τ).loc main_arg6) = x6
  e7 : m ((c : Thread nD τ).loc main_arg7) = x7
  e8 : m ((c : Thread nD τ).loc main_arg8) = x8
  e9 : m ((c : Thread nD τ).loc main_arg9) = x9
  e10 : m ((c : Thread nD τ).loc main_arg10) = x10
  e11 : m ((c : Thread nD τ).loc main_arg11) = x11
  e12 : m ((c : Thread nD τ).loc main_arg12) = x12
  e13 : m ((c : Thread nD τ).loc main_arg13) = x13
  e14 : m ((c : Thread nD τ).loc main_arg14) = x14
  e15 : m ((c : Thread nD τ).loc main_arg15) = x15
  e16 : m ((c : Thread nD τ).loc main_arg16) = x16
  e17 : m ((c : Thread nD τ).loc main_arg17) = x17
  e18 : m ((c : Thread nD τ).loc main_arg18) = x18
  e19 : m ((c : Thread nD τ).loc main_arg19) = x19
  e20 : m ((c : Thread nD τ).loc main_arg20) = x20
  e21 : m ((c : Thread nD τ).loc main_arg21) = x21
  e22 : m ((c : Thread nD τ).loc main_arg22) = x22
  e23 : m ((c : Thread nD τ).loc main_arg23) = x23
  e24 : m ((c : Thread nD τ).loc main_arg24) = x24
  e25 : m ((c : Thread nD τ).loc main_arg25) = x25
  e26 : m ((c : Thread nD τ).loc main_arg26) = x26
  e27 : m ((c : Thread nD τ).loc main_arg27) = x27
  r6 : ∀ j, ∃ r : ℝ, x6 j = (r : EReal)
  r7 : ∀ j, ∃ r : ℝ, x7 j = (r : EReal)
  r10 : ∀ j, ∃ r : ℝ, x10 j = (r : EReal)
  r11 : ∀ j, ∃ r : ℝ, x11 j = (r : EReal)
  r14 : ∀ j, ∃ r : ℝ, x14 j = (r : EReal)
  r16 : ∀ j, ∃ r : ℝ, x16 j = (r : EReal)
  r21 : ∀ j, ∃ r : ℝ, x21 j = (r : EReal)
  r22 : ∀ j, ∃ r : ℝ, x22 j = (r : EReal)

/-- The references every later stage reads beside the activations: the edge lists, with and without the self loops, and
    the normalization's constant. -/
abbrev graphRefs : List (Ref sig .tc) := [main_v5, main_v6, main_v2, main_v4, main_v8]

/-- A valuation holds the edge lists of `x1` and the normalization's constant. -/
structure Graph (W : Valuation τ sig (Elt Ideal)) (x1 : (⟨S2x800000, .i32⟩ : BufTy).Contents (Elt Ideal)) : Prop where
  src : W (Proc.devRef .tc main_v5) = val_main_v6 (F := Ideal) x1
  dst : W (Proc.devRef .tc main_v6) = val_main_v8 (F := Ideal) x1
  rawSrc : W (Proc.devRef .tc main_v2) = val_main_v139 (F := Ideal) x1
  rawDst : W (Proc.devRef .tc main_v4) = val_main_v141 (F := Ideal) x1
  root : W (Proc.devRef .tc main_v8) = invRoot

/-- A stage that keeps the references keeps the facts. -/
theorem Graph.carry {W W' : Valuation τ sig (Elt Ideal)} {x1 : (⟨S2x800000, .i32⟩ : BufTy).Contents (Elt Ideal)} (h : Graph W x1)
    (e : ∀ r ∈ graphRefs, W' (Proc.devRef .tc r) = W (Proc.devRef .tc r)) : Graph W' x1 :=
  ⟨(e _ (by decide)).trans h.src, (e _ (by decide)).trans h.dst, (e _ (by decide)).trans h.rawSrc,
    (e _ (by decide)).trans h.rawDst, (e _ (by decide)).trans h.root⟩

variable {m c}
variable {x0 : (⟨S50000x15, .f32⟩ : BufTy).Contents (Elt Ideal)} {x1 : (⟨S2x800000, .i32⟩ : BufTy).Contents (Elt Ideal)}
  {x2 : (⟨S50000, .i32⟩ : BufTy).Contents (Elt Ideal)} {x3 : (⟨S15x1024, .f32⟩ : BufTy).Contents (Elt Ideal)}
  {x4 x5 : (⟨S8x128, .f32⟩ : BufTy).Contents (Elt Ideal)} {x6 x7 x8 : (⟨S1024, .f32⟩ : BufTy).Contents (Elt Ideal)}
  {x9 : (⟨S1024x128, .f32⟩ : BufTy).Contents (Elt Ideal)} {x10 x11 x12 : (⟨S128, .f32⟩ : BufTy).Contents (Elt Ideal)}
  {x13 : (⟨S128x128, .f32⟩ : BufTy).Contents (Elt Ideal)} {x14 : (⟨S128, .f32⟩ : BufTy).Contents (Elt Ideal)}
  {x15 : (⟨S128x128, .f32⟩ : BufTy).Contents (Elt Ideal)} {x16 x17 : (⟨S128, .f32⟩ : BufTy).Contents (Elt Ideal)}
  {x18 : (⟨S128x512, .f32⟩ : BufTy).Contents (Elt Ideal)} {x19 x20 : (⟨S4x128, .f32⟩ : BufTy).Contents (Elt Ideal)}
  {x21 x22 x23 : (⟨S128, .f32⟩ : BufTy).Contents (Elt Ideal)} {x24 : (⟨S128x128, .f32⟩ : BufTy).Contents (Elt Ideal)}
  {x25 : (⟨S128, .f32⟩ : BufTy).Contents (Elt Ideal)} {x26 : (⟨S128x64, .f32⟩ : BufTy).Contents (Elt Ideal)}
  {x27 : (⟨S64, .f32⟩ : BufTy).Contents (Elt Ideal)}
variable (I : Inputs m c x0 x1 x2 x3 x4 x5 x6 x7 x8 x9 x10 x11 x12 x13 x14 x15 x16 x17 x18 x19 x20 x21 x22 x23 x24 x25 x26 x27)
include I

/-! ## The graph facts at every stage -/

/-- The graph facts after the first stage. -/
theorem graph_1 : Graph (W1 m ρ c) x1 :=
  have a : W0 m ρ c (Proc.devRef .tc main_arg1) = x1 := (W0_args m ρ c main_arg1 (by decide)).trans I.e1
  ⟨head_src _ a, head_dst _ a, head_rawSrc _ a, head_rawDst _ a, head_root _⟩
/-- The graph facts after stage 2. -/
theorem graph_2 : Graph (W2 m ρ c) x1 :=
  (graph_1 ρ I).carry fun r hr => W2_of m ρ c r ((ListAll.forall_mem_of_all_decide (by decide +kernel) :
    ∀ r ∈ graphRefs, ∀ w : Fin cfg0.W, Pipeline.arrRef spec0 w = r → (cfg0.win w).isOut = false) r hr)
/-- The graph facts after stage 4. -/
theorem graph_4 : Graph (W4 m ρ c) x1 :=
  ((graph_2 ρ I).carry fun r hr => W3_of m ρ c r ((ListAll.forall_mem_of_all_decide (by decide +kernel) : ∀ r ∈ graphRefs, r ∉ hostOps1_W) r hr)).carry fun r hr =>
    W4_of m ρ c r ((ListAll.forall_mem_of_all_decide (by decide +kernel) : ∀ r ∈ graphRefs, r ∉ hostOps1_1_W) r hr)
/-- The graph facts after stage 6. -/
theorem graph_6 : Graph (W6 m ρ c) x1 :=
  ((graph_4 ρ I).carry fun r hr => W5_of m ρ c r ((ListAll.forall_mem_of_all_decide (by decide +kernel) : ∀ r ∈ graphRefs, r ∉ hostOps1_2_W) r hr)).carry fun r hr =>
    W6_of m ρ c r ((ListAll.forall_mem_of_all_decide (by decide +kernel) :
    ∀ r ∈ graphRefs, ∀ w : Fin cfg1.W, Pipeline.arrRef spec1 w = r → (cfg1.win w).isOut = false) r hr)
/-- The graph facts after stage 8. -/
theorem graph_8 : Graph (W8 m ρ c) x1 :=
  ((graph_6 ρ I).carry fun r hr => W7_of m ρ c r ((ListAll.forall_mem_of_all_decide (by decide +kernel) : ∀ r ∈ graphRefs, r ∉ hostOps2_W) r hr)).carry fun r hr =>
    W8_of m ρ c r ((ListAll.forall_mem_of_all_decide (by decide +kernel) : ∀ r ∈ graphRefs, r ∉ hostOps2_1_W) r hr)
/-- The graph facts after stage 10. -/
theorem graph_10 : Graph (W10 m ρ c) x1 :=
  ((graph_8 ρ I).carry fun r hr => W9_of m ρ c r ((ListAll.forall_mem_of_all_decide (by decide +kernel) : ∀ r ∈ graphRefs, r ∉ hostOps2_2_W) r hr)).carry fun r hr =>
    W10_of m ρ c r ((ListAll.forall_mem_of_all_decide (by decide +kernel) :
    ∀ r ∈ graphRefs, ∀ w : Fin cfg2.W, Pipeline.arrRef spec2 w = r → (cfg2.win w).isOut = false) r hr)
/-- The graph facts after stage 12. -/
theorem graph_12 : Graph (W12 m ρ c) x1 :=
  ((graph_10 ρ I).carry fun r hr => W11_of m ρ c r ((ListAll.forall_mem_of_all_decide (by decide +kernel) : ∀ r ∈ graphRefs, r ∉ hostOps3_W) r hr)).carry fun r hr =>
    W12_of m ρ c r ((ListAll.forall_mem_of_all_decide (by decide +kernel) :
    ∀ r ∈ graphRefs, ∀ w : Fin cfg3.W, Pipeline.arrRef spec3 w = r → (cfg3.win w).isOut = false) r hr)
/-- The graph facts after stage 14. -/
theorem graph_14 : Graph (W14 m ρ c) x1 :=
  ((graph_12 ρ I).carry fun r hr => W13_of m ρ c r ((ListAll.forall_mem_of_all_decide (by decide +kernel) : ∀ r ∈ graphRefs, r ∉ hostOps4_W) r hr)).carry fun r hr =>
    W14_of m ρ c r ((ListAll.forall_mem_of_all_decide (by decide +kernel) : ∀ r ∈ graphRefs, r ∉ hostOps4_1_W) r hr)

/-! ## First graph attention -/

omit I in
/-- The reference's first product is the plain one. -/
theorem first_product : gemm (M := 50000) (K := 15) (N := 1024) x0 x3 = val_main_v9 (F := Ideal) x0 x3 :=
  (dotGeneral_eq_gemm (M := 50000) (K := 15) (N := 1024) none _ _).symm

/-- The first product. -/
theorem stage2_lin : W2 m ρ c (Proc.devRef .tc main_v33_0)
    = val_main_v9 (F := Ideal) x0 x3 :=
  (W2_arr m ρ c 4).trans <| (final0_4 (V1 m ρ) c).trans <| by
    have e0 : V1 m ρ c main_arg0 = x0 := ((W1_args m ρ c main_arg0 (by decide)).trans I.e0)
    have e1 : V1 m ρ c main_arg3 = x3 := ((W1_args m ρ c main_arg3 (by decide)).trans I.e3)
    unfold whole0_4
    rw [e0, e1]
    exact first_product

/-- The projection at the sources. -/
theorem stage2_src : W2 m ρ c (Proc.devRef .tc main_v33_1)
    = val_main_v14 (F := Ideal) x0 x3 x4 :=
  (W2_arr m ρ c 5).trans <| (final0_5 (V1 m ρ) c).trans <| by
    have e0 : V1 m ρ c main_arg0 = x0 := ((W1_args m ρ c main_arg0 (by decide)).trans I.e0)
    have e1 : V1 m ρ c main_arg3 = x3 := ((W1_args m ρ c main_arg3 (by decide)).trans I.e3)
    have e2 : V1 m ρ c main_v20 = headMat8 x4 := head_projSrc _ ((W0_args m ρ c main_arg4 (by decide)).trans I.e4)
    unfold whole0_5
    rw [e0, e1, e2]
    exact (congrArg (fun t => gemm (M := 50000) (K := 1024) (N := 8) t (headMat8 x4)) first_product).trans proj_src

/-- The projection at the destinations. -/
theorem stage2_dst : W2 m ρ c (Proc.devRef .tc main_v33_2)
    = val_main_v18 (F := Ideal) x0 x3 x5 :=
  (W2_arr m ρ c 6).trans <| (final0_6 (V1 m ρ) c).trans <| by
    have e0 : V1 m ρ c main_arg0 = x0 := ((W1_args m ρ c main_arg0 (by decide)).trans I.e0)
    have e1 : V1 m ρ c main_arg3 = x3 := ((W1_args m ρ c main_arg3 (by decide)).trans I.e3)
    have e2 : V1 m ρ c main_v32 = headMat8 x5 := head_projDst _ ((W0_args m ρ c main_arg5 (by decide)).trans I.e5)
    unfold whole0_6
    rw [e0, e1, e2]
    exact (congrArg (fun t => gemm (M := 50000) (K := 1024) (N := 8) t (headMat8 x5)) first_product).trans proj_dst

/-- The sums of the edges' attention terms. -/
theorem stage3_logit : W3 m ρ c (Proc.devRef .tc main_v48)
    = val_main_v33 (F := Ideal) x0 x1 x3 x4 x5 :=
  gat1_logit _ (graph_2 ρ I).src (graph_2 ρ I).dst (stage2_src ρ I) (stage2_dst ρ I)

/-- Their leaky rectifier. -/
theorem stage4_leaky : W4 m ρ c (Proc.devRef .tc main_v49)
    = val_main_v34 (F := Ideal) x0 x1 x3 x4 x5 :=
  gat1_leaky _ (stage3_logit ρ I) (gat1_slope _)

/-- The first product is kept up to the weighted sum. -/
theorem stage4_lin : W4 m ρ c (Proc.devRef .tc main_v33_0) = val_main_v9 (F := Ideal) x0 x3 :=
  (W4_of m ρ c main_v33_0 (by decide +kernel)).trans <| (W3_of m ρ c main_v33_0 (by decide +kernel)).trans (stage2_lin ρ I)

/-- The weighted sums. -/
theorem stage5_sum : W5 m ρ c (Proc.devRef .tc main_v73)
    = val_main_v62 (F := Ideal) x0 x1 x3 x4 x5 :=
  gat1_sum _ (graph_4 ρ I).src (graph_4 ρ I).dst (stage4_lin ρ I) (stage4_leaky ρ I)

/-- The scale of the normalization. -/
theorem stage5_scale : W5 m ρ c (Proc.devRef .tc main_v76)
    = scaleRow bcast_S_S1024 bcast_S1024_S1x1024_1 x7 :=
  gat1_scale _ (graph_4 ρ I).root ((W4_args m ρ c main_arg7 (by decide)).trans I.e7)

/-- The shift of the normalization. -/
theorem stage5_shift : W5 m ρ c (Proc.devRef .tc main_v81)
    = shiftRow bcast_S_S1024 bcast_S1024_S1x1024_1 x6 x7 x8 :=
  gat1_shift _ (graph_4 ρ I).root ((W4_args m ρ c main_arg6 (by decide)).trans I.e6) ((W4_args m ρ c main_arg7 (by decide)).trans I.e7) ((W4_args m ρ c main_arg8 (by decide)).trans I.e8)

/-! ## Graph convolution -/

/-- The product of the convolution. -/
theorem stage6_lin : W6 m ρ c (Proc.devRef .tc main_v82)
    = val_main_v86 (F := Ideal) x0 x1 x3 x4 x5 x6 x7 x8 x9 :=
  (W6_arr m ρ c 4).trans <| (final1_4 (V5 m ρ) c).trans <| by
    have e0 : V5 m ρ c main_v73 = val_main_v62 (F := Ideal) x0 x1 x3 x4 x5 := stage5_sum ρ I
    have e1 : V5 m ρ c main_v76 = scaleRow bcast_S_S1024 bcast_S1024_S1x1024_1 x7 := stage5_scale ρ I
    have e2 : V5 m ρ c main_v81 = shiftRow bcast_S_S1024 bcast_S1024_S1x1024_1 x6 x7 x8 := stage5_shift ρ I
    have e3 : V5 m ρ c main_arg9 = x9 := ((W5_args m ρ c main_arg9 (by decide)).trans I.e9)
    unfold whole1_4
    rw [e0, e1, e2, e3]
    exact (congrArg (fun t => gemm (M := 50000) (K := 1024) (N := 128) t x9) (gat1_norm I.r6 I.r7)).trans gcn_lin

/-- Which degrees are positive. -/
theorem stage7_has : W7 m ρ c (Proc.devRef .tc main_v88)
    = val_main_v92 (F := Ideal) x1 :=
  gcn_has _ (graph_6 ρ I).dst

/-- The degrees' power. -/
theorem stage7_pow : W7 m ρ c (Proc.devRef .tc main_v90)
    = val_main_v94 (F := Ideal) x1 :=
  gcn_pow _ (graph_6 ρ I).dst

/-- The degrees' normalization. -/
theorem stage8_inv : W8 m ρ c (Proc.devRef .tc main_v91)
    = val_main_v95 (F := Ideal) x1 :=
  gcn_inv _ (stage7_has ρ I) (stage7_pow ρ I) (gcn_none _)

/-- The product is kept up to the sum over the edges. -/
theorem stage8_lin : W8 m ρ c (Proc.devRef .tc main_v82) = val_main_v86 (F := Ideal) x0 x1 x3 x4 x5 x6 x7 x8 x9 :=
  (W8_of m ρ c main_v82 (by decide +kernel)).trans <| (W7_of m ρ c main_v82 (by decide +kernel)).trans (stage6_lin ρ I)

/-- The normalized sums over the edges. -/
theorem stage9_sum : W9 m ρ c (Proc.devRef .tc main_v119)
    = val_main_v123 (F := Ideal) x0 x1 x3 x4 x5 x6 x7 x8 x9 :=
  gcn_sum _ (graph_8 ρ I).src (graph_8 ρ I).dst (stage8_lin ρ I) (stage8_inv ρ I)

/-- The scale of the normalization. -/
theorem stage9_scale : W9 m ρ c (Proc.devRef .tc main_v122)
    = scaleRow bcast_S_S128 bcast_S128_S1x128_1 x11 :=
  gcn_scale _ (graph_8 ρ I).root ((W8_args m ρ c main_arg11 (by decide)).trans I.e11)

/-- The shift of the normalization. -/
theorem stage9_shift : W9 m ρ c (Proc.devRef .tc main_v127)
    = shiftRow bcast_S_S128 bcast_S128_S1x128_1 x10 x11 x12 :=
  gcn_shift _ (graph_8 ρ I).root ((W8_args m ρ c main_arg10 (by decide)).trans I.e10) ((W8_args m ρ c main_arg11 (by decide)).trans I.e11) ((W8_args m ρ c main_arg12 (by decide)).trans I.e12)

/-! ## Neighbourhood means -/

/-- The convolution's activations. -/
theorem stage10_act : W10 m ρ c (Proc.devRef .tc main_v128_0)
    = val_main_v137 (F := Ideal) x0 x1 x3 x4 x5 x6 x7 x8 x9 x10 x11 x12 :=
  (W10_arr m ρ c 4).trans <| (final2_4 (V9 m ρ) c).trans <| by
    have e0 : V9 m ρ c main_v119 = val_main_v123 (F := Ideal) x0 x1 x3 x4 x5 x6 x7 x8 x9 := stage9_sum ρ I
    have e1 : V9 m ρ c main_v122 = scaleRow bcast_S_S128 bcast_S128_S1x128_1 x11 := stage9_scale ρ I
    have e2 : V9 m ρ c main_v127 = shiftRow bcast_S_S128 bcast_S128_S1x128_1 x10 x11 x12 := stage9_shift ρ I
    unfold whole2_4
    rw [e0, e1, e2]
    exact gcn_norm I.r10 I.r11

/-- Their product with the self weights. -/
theorem stage10_self : W10 m ρ c (Proc.devRef .tc main_v128_1)
    = val_main_v165 (F := Ideal) x0 x1 x3 x4 x5 x6 x7 x8 x9 x10 x11 x12 x15 :=
  (W10_arr m ρ c 5).trans <| (final2_5 (V9 m ρ) c).trans <| by
    have e0 : V9 m ρ c main_v119 = val_main_v123 (F := Ideal) x0 x1 x3 x4 x5 x6 x7 x8 x9 := stage9_sum ρ I
    have e1 : V9 m ρ c main_v122 = scaleRow bcast_S_S128 bcast_S128_S1x128_1 x11 := stage9_scale ρ I
    have e2 : V9 m ρ c main_v127 = shiftRow bcast_S_S128 bcast_S128_S1x128_1 x10 x11 x12 := stage9_shift ρ I
    have e3 : V9 m ρ c main_arg15 = x15 := ((W9_args m ρ c main_arg15 (by decide)).trans I.e15)
    unfold whole2_5
    rw [e0, e1, e2, e3]
    exact (congrArg (fun t => gemm (M := 50000) (K := 128) (N := 128) t x15) (gcn_norm I.r10 I.r11)).trans sage_self

/-- The means over the neighbours. -/
theorem stage11_mean : W11 m ρ c (Proc.devRef .tc main_v147)
    = val_main_v160 (F := Ideal) x0 x1 x3 x4 x5 x6 x7 x8 x9 x10 x11 x12 :=
  sage_mean _ (graph_10 ρ I).rawSrc (graph_10 ρ I).rawDst (stage10_act ρ I)

/-- The self product is kept. -/
theorem stage11_self : W11 m ρ c (Proc.devRef .tc main_v128_1)
    = val_main_v165 (F := Ideal) x0 x1 x3 x4 x5 x6 x7 x8 x9 x10 x11 x12 x15 :=
  (W11_of m ρ c main_v128_1 (by decide +kernel)).trans (stage10_self ρ I)

/-- The scale of the normalization. -/
theorem stage11_scale : W11 m ρ c (Proc.devRef .tc main_v150)
    = scaleRow bcast_S_S128 bcast_S128_S1x128_1 x16 :=
  sage_scale _ (graph_10 ρ I).root ((W10_args m ρ c main_arg16 (by decide)).trans I.e16)

/-- The shift of the normalization. -/
theorem stage11_shift : W11 m ρ c (Proc.devRef .tc main_v157)
    = shiftRow bcast_S_S128 bcast_S128_S1x128_1 x14 x16 x17 :=
  sage_shift _ (graph_10 ρ I).root ((W10_args m ρ c main_arg14 (by decide)).trans I.e14) ((W10_args m ρ c main_arg16 (by decide)).trans I.e16) ((W10_args m ρ c main_arg17 (by decide)).trans I.e17)

/-! ## Second graph attention -/

/-- The product of the second attention. -/
theorem stage12_lin : W12 m ρ c (Proc.devRef .tc main_v182_0)
    = val_main_v187 (F := Ideal) x0 x1 x3 x4 x5 x6 x7 x8 x9 x10 x11 x12 x13 x14 x15 x16 x17 x18 :=
  (W12_arr m ρ c 8).trans <| (final3_8 (V11 m ρ) c).trans <| by
    have e0 : V11 m ρ c main_v147 = val_main_v160 (F := Ideal) x0 x1 x3 x4 x5 x6 x7 x8 x9 x10 x11 x12 := stage11_mean ρ I
    have e1 : V11 m ρ c main_v128_1 = val_main_v165 (F := Ideal) x0 x1 x3 x4 x5 x6 x7 x8 x9 x10 x11 x12 x15 := stage11_self ρ I
    have e2 : V11 m ρ c main_v150 = scaleRow bcast_S_S128 bcast_S128_S1x128_1 x16 := stage11_scale ρ I
    have e3 : V11 m ρ c main_v157 = shiftRow bcast_S_S128 bcast_S128_S1x128_1 x14 x16 x17 := stage11_shift ρ I
    have e4 : V11 m ρ c main_arg13 = x13 := ((W11_args m ρ c main_arg13 (by decide)).trans I.e13)
    have e5 : V11 m ρ c main_arg18 = x18 := ((W11_args m ρ c main_arg18 (by decide)).trans I.e18)
    unfold whole3_8
    rw [e0, e1, e2, e3, e4, e5]
    have g := (congrArg (fun t => gemm (M := 50000) (K := 128) (N := 512) t x18) (sage_norm (x0 := x0) (x1 := x1) (x3 := x3) (x4 := x4) (x5 := x5) (x6 := x6)
      (x7 := x7) (x8 := x8) (x9 := x9) (x10 := x10) (x11 := x11) (x12 := x12) (x13 := x13) (x15 := x15) (x17 := x17) I.r14 I.r16)).trans gat2_lin
    exact g

/-- The projection at the sources. -/
theorem stage12_src : W12 m ρ c (Proc.devRef .tc main_v182_1)
    = val_main_v192 (F := Ideal) x0 x1 x3 x4 x5 x6 x7 x8 x9 x10 x11 x12 x13 x14 x15 x16 x17 x18 x19 :=
  (W12_arr m ρ c 9).trans <| (final3_9 (V11 m ρ) c).trans <| by
    have e0 : V11 m ρ c main_v147 = val_main_v160 (F := Ideal) x0 x1 x3 x4 x5 x6 x7 x8 x9 x10 x11 x12 := stage11_mean ρ I
    have e1 : V11 m ρ c main_v128_1 = val_main_v165 (F := Ideal) x0 x1 x3 x4 x5 x6 x7 x8 x9 x10 x11 x12 x15 := stage11_self ρ I
    have e2 : V11 m ρ c main_v150 = scaleRow bcast_S_S128 bcast_S128_S1x128_1 x16 := stage11_scale ρ I
    have e3 : V11 m ρ c main_v157 = shiftRow bcast_S_S128 bcast_S128_S1x128_1 x14 x16 x17 := stage11_shift ρ I
    have e4 : V11 m ρ c main_arg13 = x13 := ((W11_args m ρ c main_arg13 (by decide)).trans I.e13)
    have e5 : V11 m ρ c main_arg18 = x18 := ((W11_args m ρ c main_arg18 (by decide)).trans I.e18)
    have e6 : V11 m ρ c main_v169 = headMat4 x19 := sage_projSrc _ ((W10_args m ρ c main_arg19 (by decide)).trans I.e19)
    unfold whole3_9
    rw [e0, e1, e2, e3, e4, e5, e6]
    have g := (congrArg (fun t => gemm (M := 50000) (K := 128) (N := 512) t x18) (sage_norm (x0 := x0) (x1 := x1) (x3 := x3) (x4 := x4) (x5 := x5) (x6 := x6)
      (x7 := x7) (x8 := x8) (x9 := x9) (x10 := x10) (x11 := x11) (x12 := x12) (x13 := x13) (x15 := x15) (x17 := x17) I.r14 I.r16)).trans gat2_lin
    exact (congrArg (fun t => gemm (M := 50000) (K := 512) (N := 4) t (headMat4 x19)) g).trans gat2_projSrc

/-- The projection at the destinations. -/
theorem stage12_dst : W12 m ρ c (Proc.devRef .tc main_v182_2)
    = val_main_v196 (F := Ideal) x0 x1 x3 x4 x5 x6 x7 x8 x9 x10 x11 x12 x13 x14 x15 x16 x17 x18 x20 :=
  (W12_arr m ρ c 10).trans <| (final3_10 (V11 m ρ) c).trans <| by
    have e0 : V11 m ρ c main_v147 = val_main_v160 (F := Ideal) x0 x1 x3 x4 x5 x6 x7 x8 x9 x10 x11 x12 := stage11_mean ρ I
    have e1 : V11 m ρ c main_v128_1 = val_main_v165 (F := Ideal) x0 x1 x3 x4 x5 x6 x7 x8 x9 x10 x11 x12 x15 := stage11_self ρ I
    have e2 : V11 m ρ c main_v150 = scaleRow bcast_S_S128 bcast_S128_S1x128_1 x16 := stage11_scale ρ I
    have e3 : V11 m ρ c main_v157 = shiftRow bcast_S_S128 bcast_S128_S1x128_1 x14 x16 x17 := stage11_shift ρ I
    have e4 : V11 m ρ c main_arg13 = x13 := ((W11_args m ρ c main_arg13 (by decide)).trans I.e13)
    have e5 : V11 m ρ c main_arg18 = x18 := ((W11_args m ρ c main_arg18 (by decide)).trans I.e18)
    have e6 : V11 m ρ c main_v181 = headMat4 x20 := sage_projDst _ ((W10_args m ρ c main_arg20 (by decide)).trans I.e20)
    unfold whole3_10
    rw [e0, e1, e2, e3, e4, e5, e6]
    have g := (congrArg (fun t => gemm (M := 50000) (K := 128) (N := 512) t x18) (sage_norm (x0 := x0) (x1 := x1) (x3 := x3) (x4 := x4) (x5 := x5) (x6 := x6)
      (x7 := x7) (x8 := x8) (x9 := x9) (x10 := x10) (x11 := x11) (x12 := x12) (x13 := x13) (x15 := x15) (x17 := x17) I.r14 I.r16)).trans gat2_lin
    exact (congrArg (fun t => gemm (M := 50000) (K := 512) (N := 4) t (headMat4 x20)) g).trans gat2_projDst

/-- The sums of the edges' attention terms. -/
theorem stage13_logit : W13 m ρ c (Proc.devRef .tc main_v197)
    = val_main_v211 (F := Ideal) x0 x1 x3 x4 x5 x6 x7 x8 x9 x10 x11 x12 x13 x14 x15 x16 x17 x18 x19 x20 :=
  gat2_logit _ (graph_12 ρ I).src (graph_12 ρ I).dst (stage12_src ρ I) (stage12_dst ρ I)

/-- Their leaky rectifier. -/
theorem stage14_leaky : W14 m ρ c (Proc.devRef .tc main_v198)
    = val_main_v212 (F := Ideal) x0 x1 x3 x4 x5 x6 x7 x8 x9 x10 x11 x12 x13 x14 x15 x16 x17 x18 x19 x20 :=
  gat2_leaky _ (stage13_logit ρ I) (gat2_slope _)

/-- The product is kept up to the weighted sum. -/
theorem stage14_lin : W14 m ρ c (Proc.devRef .tc main_v182_0)
    = val_main_v187 (F := Ideal) x0 x1 x3 x4 x5 x6 x7 x8 x9 x10 x11 x12 x13 x14 x15 x16 x17 x18 :=
  (W14_of m ρ c main_v182_0 (by decide +kernel)).trans <| (W13_of m ρ c main_v182_0 (by decide +kernel)).trans (stage12_lin ρ I)

/-- The heads' mean of the weighted sums. -/
theorem stage15_sum : W15 m ρ c (Proc.devRef .tc main_v224)
    = val_main_v242 (F := Ideal) x0 x1 x3 x4 x5 x6 x7 x8 x9 x10 x11 x12 x13 x14 x15 x16 x17 x18 x19 x20 :=
  gat2_sum _ (graph_14 ρ I).src (graph_14 ρ I).dst (stage14_lin ρ I) (stage14_leaky ρ I)

/-- The scale of the normalization. -/
theorem stage15_scale : W15 m ρ c (Proc.devRef .tc main_v227)
    = scaleRow bcast_S_S128 bcast_S128_S1x128_1 x22 :=
  gat2_scale _ (graph_14 ρ I).root ((W14_args m ρ c main_arg22 (by decide)).trans I.e22)

/-- The shift of the normalization. -/
theorem stage15_shift : W15 m ρ c (Proc.devRef .tc main_v232)
    = shiftRow bcast_S_S128 bcast_S128_S1x128_1 x21 x22 x23 :=
  gat2_shift _ (graph_14 ρ I).root ((W14_args m ρ c main_arg21 (by decide)).trans I.e21) ((W14_args m ρ c main_arg22 (by decide)).trans I.e22) ((W14_args m ρ c main_arg23 (by decide)).trans I.e23)

/-! ## Pooling and the three results -/

/-- The nodes' embedding. -/
theorem stage16_nodes : W16 m ρ c (Proc.devRef .tc main_v233)
    = val_main_v256 (F := Ideal) x0 x1 x3 x4 x5 x6 x7 x8 x9 x10 x11 x12 x13 x14 x15 x16 x17 x18 x19 x20 x21 x22 x23 :=
  (W16_arr m ρ c 3).trans <| (final4_3 (V15 m ρ) c).trans <| by
    have e0 : V15 m ρ c main_v224 = val_main_v242 (F := Ideal) x0 x1 x3 x4 x5 x6 x7 x8 x9 x10 x11 x12 x13 x14 x15 x16 x17 x18 x19 x20 := stage15_sum ρ I
    have e1 : V15 m ρ c main_v227 = scaleRow bcast_S_S128 bcast_S128_S1x128_1 x22 := stage15_scale ρ I
    have e2 : V15 m ρ c main_v232 = shiftRow bcast_S_S128 bcast_S128_S1x128_1 x21 x22 x23 := stage15_shift ρ I
    unfold whole4_3
    rw [e0, e1, e2]
    exact gat2_norm I.r21 I.r22

/-- The embedding summed over each graph's nodes. -/
theorem stage17_sum : W17 m ρ c (Proc.devRef .tc main_v236)
    = val_main_v259 (F := Ideal) x0 x1 x2 x3 x4 x5 x6 x7 x8 x9 x10 x11 x12 x13 x14 x15 x16 x17 x18 x19 x20 x21 x22 x23 :=
  pool_sum _ ((W16_args m ρ c main_arg2 (by decide)).trans I.e2) (stage16_nodes ρ I)

/-- First result: the nodes' embedding, kept to the end. -/
theorem result_nodes : W18 m ρ c (Proc.devRef .tc main_v233)
    = val_main_v256 (F := Ideal) x0 x1 x3 x4 x5 x6 x7 x8 x9 x10 x11 x12 x13 x14 x15 x16 x17 x18 x19 x20 x21 x22 x23 :=
  (W18_of m ρ c main_v233 (by decide +kernel)).trans <| (W17_of m ρ c main_v233 (by decide +kernel)).trans (stage16_nodes ρ I)

/-- Second result: the graphs' means. -/
theorem result_graphs : W18 m ρ c (Proc.devRef .tc main_v244_0)
    = val_main_v268 (F := Ideal) x0 x1 x2 x3 x4 x5 x6 x7 x8 x9 x10 x11 x12 x13 x14 x15 x16 x17 x18 x19 x20 x21 x22 x23 :=
  (W18_arr m ρ c 6).trans <| (final5_6 (V17 m ρ) c).trans <| by
    have e0 : V17 m ρ c main_v236 = val_main_v259 (F := Ideal) x0 x1 x2 x3 x4 x5 x6 x7 x8 x9 x10 x11 x12 x13 x14 x15 x16 x17 x18 x19 x20 x21 x22 x23 := stage17_sum ρ I
    have e1 : V17 m ρ c main_v241 = (broadcastInDim S1024x1 ![0] bcast_S1024_S1024x1_0 (val_main_v263 (F := Ideal) x2) : FVec Ideal S1024x1 .f32) := pool_count _ ((W16_args m ρ c main_arg2 (by decide)).trans I.e2)
    unfold whole5_6
    rw [e0, e1]
    exact pool_out1

/-- Third result: the head on the means. -/
theorem result_head : W18 m ρ c (Proc.devRef .tc main_v244_1)
    = val_main_v277 (F := Ideal) x0 x1 x2 x3 x4 x5 x6 x7 x8 x9 x10 x11 x12 x13 x14 x15 x16 x17 x18 x19 x20 x21 x22 x23 x24 x25 x26 x27 :=
  (W18_arr m ρ c 7).trans <| (final5_7 (V17 m ρ) c).trans <| by
    have e0 : V17 m ρ c main_v236 = val_main_v259 (F := Ideal) x0 x1 x2 x3 x4 x5 x6 x7 x8 x9 x10 x11 x12 x13 x14 x15 x16 x17 x18 x19 x20 x21 x22 x23 := stage17_sum ρ I
    have e1 : V17 m ρ c main_v241 = (broadcastInDim S1024x1 ![0] bcast_S1024_S1024x1_0 (val_main_v263 (F := Ideal) x2) : FVec Ideal S1024x1 .f32) := pool_count _ ((W16_args m ρ c main_arg2 (by decide)).trans I.e2)
    have e2 : V17 m ρ c main_arg24 = x24 := ((W17_args m ρ c main_arg24 (by decide)).trans I.e24)
    have e3 : V17 m ρ c main_v242 = val_main_v270 (F := Ideal) x25 := pool_bias1 _ ((W16_args m ρ c main_arg25 (by decide)).trans I.e25)
    have e4 : V17 m ρ c main_arg26 = x26 := ((W17_args m ρ c main_arg26 (by decide)).trans I.e26)
    have e5 : V17 m ρ c main_v243 = val_main_v275 (F := Ideal) x27 := pool_bias2 _ ((W16_args m ρ c main_arg27 (by decide)).trans I.e27)
    unfold whole5_7
    rw [e0, e1, e2, e3, e4, e5]
    exact pool_out2

end Cert.KernelIdeal.Stages

end
-- ==== Proof.Value.lean ====
/- The kernel's three results and the reference's, equal over the extended reals: what the precondition gives of the
   affine arrays, and the two runs brought to the same values. -/
module

public import proofs.«01_k».proof.Defs
public import proofs.«01_k».proof.Proof.KernelRun
public import proofs.«01_k».proof.Proof.Stages
public import proofs.«01_k».proof.Proof.Gen.ReferenceIdeal.Run
public import proofs.«01_k».proof.Proof.Gen.Pre_finite_affine

@[expose] public section

set_option maxRecDepth 16384

noncomputable section

namespace Cert.Proof

open Idealize.ShloMosaic Idealize.SL.Sem Idealize.ShloMosaic.StableHlo Idealize.ShloMosaic.TcCoe

/-- An array whose absolute values compare below plus infinity everywhere is real-valued. -/
theorem real_of_check {t : Shape} (x y : FVec Ideal t .f32) (e : x = y) (hb : (⟨0, ![]⟩ : Shape).BroadcastsInDim t (![] : Fin 0 → Fin t.rank))
    (h : cmpf .olt (Host.absf x) (broadcastInDim t ![] hb (constant (F := Ideal) ⟨0, ![]⟩ .f32 0x7F800000#32)) = fun _ => 1#1) :
    ∀ j, ∃ r : ℝ, y j = (r : EReal) := by
  subst e
  intro j
  refine Cert.Arith.real_of_abs_lt (x j) ?_
  have hj := congrFun h j
  have hc := Cert.Layers.bc0 hb (constant (F := Ideal) ⟨0, ![]⟩ .f32 0x7F800000#32) j
  show FloatOps.cmpf (F := Ideal) (φ := .f32) .olt (FloatOps.hostAbsf (F := Ideal) (φ := .f32) (x j)) _ = 1#1
  exact (congrArg (FloatOps.cmpf (F := Ideal) (φ := .f32) .olt (FloatOps.hostAbsf (F := Ideal) (φ := .f32) (x j))) hc).symm.trans hj

open Cert.ReferenceIdeal in
/-- The contents of one of the reference's argument array at the launch. -/
abbrev refArg (m' : (ℓ : Loc nD τ sig) → Buf (Elt Ideal) ℓ) (c : Dev nD) (a : Ref sig .tc) : Buf (Elt Ideal) ((c.tc : Thread nD τ).loc a) :=
  m' ((c.tc : Thread nD τ).loc a)

open Cert.KernelIdeal in
/-- At the end the kernel's arguments are as launched. -/
theorem kept_arg (m : (ℓ : Loc nD τ sig) → Buf (Elt Ideal) ℓ) (ρ : Dev nD → PrngReg) (c : Dev nD) (a : Ref sig .tc)
    (ha : a ∈ Gen.argRefs) {μ : (ℓ : Loc nD τ sig) → Buf (Elt Ideal) ℓ}
    (h : ∀ b ∈ Pipeline.ucRefs τ sig, μ (((c : Thread nD τ)).1, b) = Gen.W18 m ρ c b) (hu : Proc.devRef .tc a ∈ Pipeline.ucRefs τ sig) :
    μ ((c.tc : Thread nD τ).loc a) = m ((c.tc : Thread nD τ).loc a) :=
  (h _ hu).trans (Gen.W18_args m ρ c a ha)

/-- Over the extended reals the kernel and the reference end with the same nodes' embedding, graphs' means and head
    output, whenever the biases and the scales of the four normalizations are finite. -/
theorem algebraic : Cert.algebraic_KernelIdeal_ReferenceIdeal_pre_finite_affine := by
  intro m g m' g' hpre hargs
  have I : ∀ c : Dev Cert.KernelIdeal.nD, Cert.KernelIdeal.Stages.Inputs m c
      (refArg m' c Cert.ReferenceIdeal.main_arg0) (refArg m' c Cert.ReferenceIdeal.main_arg1) (refArg m' c Cert.ReferenceIdeal.main_arg2)
      (refArg m' c Cert.ReferenceIdeal.main_arg3) (refArg m' c Cert.ReferenceIdeal.main_arg4) (refArg m' c Cert.ReferenceIdeal.main_arg5)
      (refArg m' c Cert.ReferenceIdeal.main_arg6) (refArg m' c Cert.ReferenceIdeal.main_arg7) (refArg m' c Cert.ReferenceIdeal.main_arg8)
      (refArg m' c Cert.ReferenceIdeal.main_arg9) (refArg m' c Cert.ReferenceIdeal.main_arg10) (refArg m' c Cert.ReferenceIdeal.main_arg11)
      (refArg m' c Cert.ReferenceIdeal.main_arg12) (refArg m' c Cert.ReferenceIdeal.main_arg13) (refArg m' c Cert.ReferenceIdeal.main_arg14)
      (refArg m' c Cert.ReferenceIdeal.main_arg15) (refArg m' c Cert.ReferenceIdeal.main_arg16) (refArg m' c Cert.ReferenceIdeal.main_arg17)
      (refArg m' c Cert.ReferenceIdeal.main_arg18) (refArg m' c Cert.ReferenceIdeal.main_arg19) (refArg m' c Cert.ReferenceIdeal.main_arg20)
      (refArg m' c Cert.ReferenceIdeal.main_arg21) (refArg m' c Cert.ReferenceIdeal.main_arg22) (refArg m' c Cert.ReferenceIdeal.main_arg23)
      (refArg m' c Cert.ReferenceIdeal.main_arg24) (refArg m' c Cert.ReferenceIdeal.main_arg25) (refArg m' c Cert.ReferenceIdeal.main_arg26)
      (refArg m' c Cert.ReferenceIdeal.main_arg27) := by
    intro c
    obtain ⟨e0, e1, e2, e3, e4, e5, e6, e7, e8, e9, e10, e11, e12, e13, e14, e15, e16, e17, e18, e19, e20, e21, e22, e23, e24, e25, e26, e27⟩ := hargs c
    obtain ⟨p6, p7, p10, p11, p14, p16, p21, p22⟩ := hpre c
    exact {
      e0 := e0.symm, e1 := e1.symm, e2 := e2.symm, e3 := e3.symm, e4 := e4.symm, e5 := e5.symm, e6 := e6.symm,
      e7 := e7.symm, e8 := e8.symm, e9 := e9.symm, e10 := e10.symm, e11 := e11.symm, e12 := e12.symm, e13 := e13.symm,
      e14 := e14.symm, e15 := e15.symm, e16 := e16.symm, e17 := e17.symm, e18 := e18.symm, e19 := e19.symm, e20 := e20.symm,
      e21 := e21.symm, e22 := e22.symm, e23 := e23.symm, e24 := e24.symm, e25 := e25.symm, e26 := e26.symm, e27 := e27.symm,
      r6 := real_of_check _ _ e6.symm _ p6,
      r7 := real_of_check _ _ e7.symm _ p7,
      r10 := real_of_check _ _ e10.symm _ p10,
      r11 := real_of_check _ _ e11.symm _ p11,
      r14 := real_of_check _ _ e14.symm _ p14,
      r16 := real_of_check _ _ e16.symm _ p16,
      r21 := real_of_check _ _ e21.symm _ p21,
      r22 := real_of_check _ _ e22.symm _ p22 }
  refine ⟨fun c => Cert.ReferenceIdeal.Read.val_main_v256 (F := Ideal)
      (refArg m' c Cert.ReferenceIdeal.main_arg0) (refArg m' c Cert.ReferenceIdeal.main_arg1) (refArg m' c Cert.ReferenceIdeal.main_arg3)
      (refArg m' c Cert.ReferenceIdeal.main_arg4) (refArg m' c Cert.ReferenceIdeal.main_arg5) (refArg m' c Cert.ReferenceIdeal.main_arg6)
      (refArg m' c Cert.ReferenceIdeal.main_arg7) (refArg m' c Cert.ReferenceIdeal.main_arg8) (refArg m' c Cert.ReferenceIdeal.main_arg9)
      (refArg m' c Cert.ReferenceIdeal.main_arg10) (refArg m' c Cert.ReferenceIdeal.main_arg11) (refArg m' c Cert.ReferenceIdeal.main_arg12)
      (refArg m' c Cert.ReferenceIdeal.main_arg13) (refArg m' c Cert.ReferenceIdeal.main_arg14) (refArg m' c Cert.ReferenceIdeal.main_arg15)
      (refArg m' c Cert.ReferenceIdeal.main_arg16) (refArg m' c Cert.ReferenceIdeal.main_arg17) (refArg m' c Cert.ReferenceIdeal.main_arg18)
      (refArg m' c Cert.ReferenceIdeal.main_arg19) (refArg m' c Cert.ReferenceIdeal.main_arg20) (refArg m' c Cert.ReferenceIdeal.main_arg21)
      (refArg m' c Cert.ReferenceIdeal.main_arg22) (refArg m' c Cert.ReferenceIdeal.main_arg23),
    fun c => Cert.ReferenceIdeal.Read.val_main_v268 (F := Ideal)
      (refArg m' c Cert.ReferenceIdeal.main_arg0) (refArg m' c Cert.ReferenceIdeal.main_arg1) (refArg m' c Cert.ReferenceIdeal.main_arg2)
      (refArg m' c Cert.ReferenceIdeal.main_arg3) (refArg m' c Cert.ReferenceIdeal.main_arg4) (refArg m' c Cert.ReferenceIdeal.main_arg5)
      (refArg m' c Cert.ReferenceIdeal.main_arg6) (refArg m' c Cert.ReferenceIdeal.main_arg7) (refArg m' c Cert.ReferenceIdeal.main_arg8)
      (refArg m' c Cert.ReferenceIdeal.main_arg9) (refArg m' c Cert.ReferenceIdeal.main_arg10) (refArg m' c Cert.ReferenceIdeal.main_arg11)
      (refArg m' c Cert.ReferenceIdeal.main_arg12) (refArg m' c Cert.ReferenceIdeal.main_arg13) (refArg m' c Cert.ReferenceIdeal.main_arg14)
      (refArg m' c Cert.ReferenceIdeal.main_arg15) (refArg m' c Cert.ReferenceIdeal.main_arg16) (refArg m' c Cert.ReferenceIdeal.main_arg17)
      (refArg m' c Cert.ReferenceIdeal.main_arg18) (refArg m' c Cert.ReferenceIdeal.main_arg19) (refArg m' c Cert.ReferenceIdeal.main_arg20)
      (refArg m' c Cert.ReferenceIdeal.main_arg21) (refArg m' c Cert.ReferenceIdeal.main_arg22) (refArg m' c Cert.ReferenceIdeal.main_arg23),
    fun c => Cert.ReferenceIdeal.Read.val_main_v277 (F := Ideal)
      (refArg m' c Cert.ReferenceIdeal.main_arg0) (refArg m' c Cert.ReferenceIdeal.main_arg1) (refArg m' c Cert.ReferenceIdeal.main_arg2)
      (refArg m' c Cert.ReferenceIdeal.main_arg3) (refArg m' c Cert.ReferenceIdeal.main_arg4) (refArg m' c Cert.ReferenceIdeal.main_arg5)
      (refArg m' c Cert.ReferenceIdeal.main_arg6) (refArg m' c Cert.ReferenceIdeal.main_arg7) (refArg m' c Cert.ReferenceIdeal.main_arg8)
      (refArg m' c Cert.ReferenceIdeal.main_arg9) (refArg m' c Cert.ReferenceIdeal.main_arg10) (refArg m' c Cert.ReferenceIdeal.main_arg11)
      (refArg m' c Cert.ReferenceIdeal.main_arg12) (refArg m' c Cert.ReferenceIdeal.main_arg13) (refArg m' c Cert.ReferenceIdeal.main_arg14)
      (refArg m' c Cert.ReferenceIdeal.main_arg15) (refArg m' c Cert.ReferenceIdeal.main_arg16) (refArg m' c Cert.ReferenceIdeal.main_arg17)
      (refArg m' c Cert.ReferenceIdeal.main_arg18) (refArg m' c Cert.ReferenceIdeal.main_arg19) (refArg m' c Cert.ReferenceIdeal.main_arg20)
      (refArg m' c Cert.ReferenceIdeal.main_arg21) (refArg m' c Cert.ReferenceIdeal.main_arg22) (refArg m' c Cert.ReferenceIdeal.main_arg23)
      (refArg m' c Cert.ReferenceIdeal.main_arg24) (refArg m' c Cert.ReferenceIdeal.main_arg25) (refArg m' c Cert.ReferenceIdeal.main_arg26)
      (refArg m' c Cert.ReferenceIdeal.main_arg27), ?_, ?_⟩
  · refine (θ_run Cert.KernelIdeal.defs _ _).mono (fun r h c => ?_) (Cert.KernelIdeal.Run.run_contents m g)
    exact ⟨(h c _ (Cert.KernelIdeal.Gen.mem_uc Cert.KernelIdeal.main_v233 (by decide))).trans (Cert.KernelIdeal.Stages.result_nodes g (I c)),
      (h c _ (Cert.KernelIdeal.Gen.mem_uc Cert.KernelIdeal.main_v244_0 (by decide))).trans (Cert.KernelIdeal.Stages.result_graphs g (I c)),
      (h c _ (Cert.KernelIdeal.Gen.mem_uc Cert.KernelIdeal.main_v244_1 (by decide))).trans (Cert.KernelIdeal.Stages.result_head g (I c)),
      kept_arg m g c Cert.KernelIdeal.main_arg0 (by decide) (h c) (Cert.KernelIdeal.Gen.mem_uc _ (by decide)),
      kept_arg m g c Cert.KernelIdeal.main_arg1 (by decide) (h c) (Cert.KernelIdeal.Gen.mem_uc _ (by decide)),
      kept_arg m g c Cert.KernelIdeal.main_arg2 (by decide) (h c) (Cert.KernelIdeal.Gen.mem_uc _ (by decide)),
      kept_arg m g c Cert.KernelIdeal.main_arg3 (by decide) (h c) (Cert.KernelIdeal.Gen.mem_uc _ (by decide)),
      kept_arg m g c Cert.KernelIdeal.main_arg4 (by decide) (h c) (Cert.KernelIdeal.Gen.mem_uc _ (by decide)),
      kept_arg m g c Cert.KernelIdeal.main_arg5 (by decide) (h c) (Cert.KernelIdeal.Gen.mem_uc _ (by decide)),
      kept_arg m g c Cert.KernelIdeal.main_arg6 (by decide) (h c) (Cert.KernelIdeal.Gen.mem_uc _ (by decide)),
      kept_arg m g c Cert.KernelIdeal.main_arg7 (by decide) (h c) (Cert.KernelIdeal.Gen.mem_uc _ (by decide)),
      kept_arg m g c Cert.KernelIdeal.main_arg8 (by decide) (h c) (Cert.KernelIdeal.Gen.mem_uc _ (by decide)),
      kept_arg m g c Cert.KernelIdeal.main_arg9 (by decide) (h c) (Cert.KernelIdeal.Gen.mem_uc _ (by decide)),
      kept_arg m g c Cert.KernelIdeal.main_arg10 (by decide) (h c) (Cert.KernelIdeal.Gen.mem_uc _ (by decide)),
      kept_arg m g c Cert.KernelIdeal.main_arg11 (by decide) (h c) (Cert.KernelIdeal.Gen.mem_uc _ (by decide)),
      kept_arg m g c Cert.KernelIdeal.main_arg12 (by decide) (h c) (Cert.KernelIdeal.Gen.mem_uc _ (by decide)),
      kept_arg m g c Cert.KernelIdeal.main_arg13 (by decide) (h c) (Cert.KernelIdeal.Gen.mem_uc _ (by decide)),
      kept_arg m g c Cert.KernelIdeal.main_arg14 (by decide) (h c) (Cert.KernelIdeal.Gen.mem_uc _ (by decide)),
      kept_arg m g c Cert.KernelIdeal.main_arg15 (by decide) (h c) (Cert.KernelIdeal.Gen.mem_uc _ (by decide)),
      kept_arg m g c Cert.KernelIdeal.main_arg16 (by decide) (h c) (Cert.KernelIdeal.Gen.mem_uc _ (by decide)),
      kept_arg m g c Cert.KernelIdeal.main_arg17 (by decide) (h c) (Cert.KernelIdeal.Gen.mem_uc _ (by decide)),
      kept_arg m g c Cert.KernelIdeal.main_arg18 (by decide) (h c) (Cert.KernelIdeal.Gen.mem_uc _ (by decide)),
      kept_arg m g c Cert.KernelIdeal.main_arg19 (by decide) (h c) (Cert.KernelIdeal.Gen.mem_uc _ (by decide)),
      kept_arg m g c Cert.KernelIdeal.main_arg20 (by decide) (h c) (Cert.KernelIdeal.Gen.mem_uc _ (by decide)),
      kept_arg m g c Cert.KernelIdeal.main_arg21 (by decide) (h c) (Cert.KernelIdeal.Gen.mem_uc _ (by decide)),
      kept_arg m g c Cert.KernelIdeal.main_arg22 (by decide) (h c) (Cert.KernelIdeal.Gen.mem_uc _ (by decide)),
      kept_arg m g c Cert.KernelIdeal.main_arg23 (by decide) (h c) (Cert.KernelIdeal.Gen.mem_uc _ (by decide)),
      kept_arg m g c Cert.KernelIdeal.main_arg24 (by decide) (h c) (Cert.KernelIdeal.Gen.mem_uc _ (by decide)),
      kept_arg m g c Cert.KernelIdeal.main_arg25 (by decide) (h c) (Cert.KernelIdeal.Gen.mem_uc _ (by decide)),
      kept_arg m g c Cert.KernelIdeal.main_arg26 (by decide) (h c) (Cert.KernelIdeal.Gen.mem_uc _ (by decide)),
      kept_arg m g c Cert.KernelIdeal.main_arg27 (by decide) (h c) (Cert.KernelIdeal.Gen.mem_uc _ (by decide))⟩
  · refine (θ_run Cert.ReferenceIdeal.defs _ _).mono (fun r h c => ?_) (Cert.ReferenceIdeal.Value.run (F := Ideal) m' g')
    exact ⟨(h c).1.trans (Cert.ReferenceIdeal.Read.val_main_v256_eq (launchContents m' c)),
      (h c).2.1.trans (Cert.ReferenceIdeal.Read.val_main_v268_eq (launchContents m' c)),
      (h c).2.2.1.trans (Cert.ReferenceIdeal.Read.val_main_v277_eq (launchContents m' c)),
      (h c).2.2.2⟩

end Cert.Proof

end
-- ==== Proof.lean ====
/- The proof of the certificate's claim. -/
module

public import proofs.«01_k».proof.Defs
public import proofs.«01_k».proof.Proof.Frames
public import proofs.«01_k».proof.Proof.Value
public import proofs.«01_k».proof.Proof.Gen.ReferenceIdeal.Read
public import proofs.«01_k».proof.Proof.Gen.Pre_finite_affine

@[expose] public section

/-- The whole claim: the kernel, its reading over the extended reals and the reference leave their arguments and their
    semaphores unchanged, the kernel's idealization changes only its float type, and over the extended reals the kernel's
    three results are the reference's whenever the affine arrays are finite. -/
theorem Cert.Proof.claim : Cert.Claim :=
  ⟨Cert.Kernel.Gen.facts, Cert.KernelIdeal.Gen.facts, Cert.ReferenceIdeal.Gen.facts, Cert.Pre_finite_affine.Gen.facts,
    frame_kernel, frame_ideal, frame_ideal_pre, frame_reference, frame_reference_pre, trivial, algebraic⟩
